-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S2x128x4096 : Shape := ⟨3, ![2, 128, 4096]⟩
abbrev S2 : Shape := ⟨1, ![2]⟩
abbrev S32x8x128 : Shape := ⟨3, ![32, 8, 128]⟩
abbrev S31 : Shape := ⟨1, ![31]⟩
abbrev S_ : Shape := ⟨0, ![]⟩
abbrev S128x128 : Shape := ⟨2, ![128, 128]⟩
abbrev S128x4096 : Shape := ⟨2, ![128, 4096]⟩
abbrev S1x128x4096 : Shape := ⟨3, ![1, 128, 4096]⟩
abbrev S1 : Shape := ⟨1, ![1]⟩
abbrev S1x128x8192 : Shape := ⟨3, ![1, 128, 8192]⟩
abbrev S1x1x1 : Shape := ⟨3, ![1, 1, 1]⟩
abbrev S8x128 : Shape := ⟨2, ![8, 128]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S128x8192, .f32⟩
  | .local _ .vmem, ⟨3, _⟩ => ⟨S2x128x4096, .f32⟩
  | .local _ .vmem, ⟨4, _⟩ => ⟨S2x128x4096, .f32⟩
  | .local _ .vmem, ⟨5, _⟩ => ⟨S2x128x4096, .f32⟩
  | .local _ .vmem, ⟨6, _⟩ => ⟨S2x128x4096, .f32⟩
  | .local _ .vmem, ⟨7, _⟩ => ⟨S32x8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 5 73 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch10 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_20 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_19 : BitVec 32 := 1#32
  let v30 : BitVec 32 := Scalar.subi v2 c1_i32_19
  let v31 : BitVec 32 := Scalar.subi v30 c0_i32_20
  let c32_i32_21 : BitVec 32 := 32#32
  let c0_i32_22 : BitVec 32 := 0#32
  let v32 : BitVec 1 := Scalar.cmpi .eq c32_i32_21 c0_i32_22
  let c1_i32_23 : BitVec 32 := 1#32
  let v33 : BitVec 32 := Scalar.select v32 c1_i32_23 c32_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v54 : BitVec 32 := Scalar.muli v41 c128_i32
  let v55 : Index := Scalar.indexCast v54
  let c0 : Index := 0#32
  ![v55.toNat, 0]
def k0_off2 (d0 : Dev nD) (c0_i32_28 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v42 : BitVec 32 := Scalar.addi v2 c1_i32_27
  let v43 : BitVec 32 := Scalar.addi v42 c0_i32_28
  let c32_i32_29 : BitVec 32 := 32#32
  let c0_i32_30 : BitVec 32 := 0#32
  let v44 : BitVec 1 := Scalar.cmpi .eq c32_i32_29 c0_i32_30
  let c1_i32_31 : BitVec 32 := 1#32
  let v45 : BitVec 32 := Scalar.select v44 c1_i32_31 c32_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c128_i32_37 : BitVec 32 := 128#32
  let v61 : BitVec 32 := Scalar.muli v53 c128_i32_37
  let v62 : Index := Scalar.indexCast v61
  let c0_38 : Index := 0#32
  ![v62.toNat, 0]
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v71 : BitVec 32 := Scalar.muli v24 c1_i32_48
  let v72 : BitVec 32 := Scalar.addi c0_i32_49 v71
  v72.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_61 : BitVec 32 := 1#32
  let v84 : BitVec 32 := Scalar.muli v13 c1_i32_61
  let v85 : BitVec 32 := Scalar.addi c0_i32_62 v84
  v85.toNat
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_108 : BitVec 32 := 1#32
  let v145 : BitVec 32 := Scalar.muli v13 c1_i32_108
  let v146 : BitVec 32 := Scalar.addi c0_i32_109 v145
  v146.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v150 : BitVec 32 := Scalar.muli v24 c1_i32_116
  let v151 : BitVec 32 := Scalar.addi c0_i32_117 v150
  v151.toNat
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_137 : BitVec 32 := 1#32
  let v173 : BitVec 32 := Scalar.muli v24 c1_i32_137
  let v174 : BitVec 32 := Scalar.addi c0_i32_138 v173
  v174.toNat
def k0_dev8 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_146 : BitVec 32 := 1#32
  let v178 : BitVec 32 := Scalar.muli v13 c1_i32_146
  let v179 : BitVec 32 := Scalar.addi c0_i32_147 v178
  v179.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_193 : BitVec 32 := 1#32
  let v239 : BitVec 32 := Scalar.muli v13 c1_i32_193
  let v240 : BitVec 32 := Scalar.addi c0_i32_194 v239
  v240.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_214 : BitVec 32 := 1#32
  let v252 : BitVec 32 := Scalar.muli v24 c1_i32_214
  let v253 : BitVec 32 := Scalar.addi c0_i32_215 v252
  v253.toNat
def k0_dev11 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_235 : BitVec 32 := 1#32
  let v275 : BitVec 32 := Scalar.muli v24 c1_i32_235
  let v276 : BitVec 32 := Scalar.addi c0_i32_236 v275
  v276.toNat
def k0_dev12 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_256 : BitVec 32 := 1#32
  let v288 : BitVec 32 := Scalar.muli v13 c1_i32_256
  let v289 : BitVec 32 := Scalar.addi c0_i32_257 v288
  v289.toNat
def k0_dev13 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_302 : BitVec 32 := 1#32
  let v349 : BitVec 32 := Scalar.muli v13 c1_i32_302
  let v350 : BitVec 32 := Scalar.addi c0_i32_303 v349
  v350.toNat
def k0_dev14 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_323 : BitVec 32 := 1#32
  let v362 : BitVec 32 := Scalar.muli v24 c1_i32_323
  let v363 : BitVec 32 := Scalar.addi c0_i32_324 v362
  v363.toNat
def k0_dev15 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_344 : BitVec 32 := 1#32
  let v385 : BitVec 32 := Scalar.muli v24 c1_i32_344
  let v386 : BitVec 32 := Scalar.addi c0_i32_345 v385
  v386.toNat
def k0_dev16 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_365 : BitVec 32 := 1#32
  let v398 : BitVec 32 := Scalar.muli v13 c1_i32_365
  let v399 : BitVec 32 := Scalar.addi c0_i32_366 v398
  v399.toNat
def k0_dev17 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_411 : BitVec 32 := 1#32
  let v459 : BitVec 32 := Scalar.muli v13 c1_i32_411
  let v460 : BitVec 32 := Scalar.addi c0_i32_412 v459
  v460.toNat
def k0_dev18 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_432 : BitVec 32 := 1#32
  let v472 : BitVec 32 := Scalar.muli v24 c1_i32_432
  let v473 : BitVec 32 := Scalar.addi c0_i32_433 v472
  v473.toNat
def k0_dev19 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_453 : BitVec 32 := 1#32
  let v495 : BitVec 32 := Scalar.muli v24 c1_i32_453
  let v496 : BitVec 32 := Scalar.addi c0_i32_454 v495
  v496.toNat
def k0_dev20 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_474 : BitVec 32 := 1#32
  let v508 : BitVec 32 := Scalar.muli v13 c1_i32_474
  let v509 : BitVec 32 := Scalar.addi c0_i32_475 v508
  v509.toNat
def k0_dev21 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_520 : BitVec 32 := 1#32
  let v569 : BitVec 32 := Scalar.muli v13 c1_i32_520
  let v570 : BitVec 32 := Scalar.addi c0_i32_521 v569
  v570.toNat
def k0_dev22 (d0 : Dev nD) : Nat :=
  let c0_i32_542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_541 : BitVec 32 := 1#32
  let v582 : BitVec 32 := Scalar.muli v24 c1_i32_541
  let v583 : BitVec 32 := Scalar.addi c0_i32_542 v582
  v583.toNat
def k0_dev23 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_562 : BitVec 32 := 1#32
  let v605 : BitVec 32 := Scalar.muli v24 c1_i32_562
  let v606 : BitVec 32 := Scalar.addi c0_i32_563 v605
  v606.toNat
def k0_dev24 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_583 : BitVec 32 := 1#32
  let v618 : BitVec 32 := Scalar.muli v13 c1_i32_583
  let v619 : BitVec 32 := Scalar.addi c0_i32_584 v618
  v619.toNat
def k0_dev25 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_629 : BitVec 32 := 1#32
  let v679 : BitVec 32 := Scalar.muli v13 c1_i32_629
  let v680 : BitVec 32 := Scalar.addi c0_i32_630 v679
  v680.toNat
def k0_dev26 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_650 : BitVec 32 := 1#32
  let v692 : BitVec 32 := Scalar.muli v24 c1_i32_650
  let v693 : BitVec 32 := Scalar.addi c0_i32_651 v692
  v693.toNat
def k0_dev27 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_671 : BitVec 32 := 1#32
  let v715 : BitVec 32 := Scalar.muli v24 c1_i32_671
  let v716 : BitVec 32 := Scalar.addi c0_i32_672 v715
  v716.toNat
def k0_dev28 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_692 : BitVec 32 := 1#32
  let v728 : BitVec 32 := Scalar.muli v13 c1_i32_692
  let v729 : BitVec 32 := Scalar.addi c0_i32_693 v728
  v729.toNat
def k0_dev29 (d0 : Dev nD) : Nat :=
  let c0_i32_739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_738 : BitVec 32 := 1#32
  let v789 : BitVec 32 := Scalar.muli v13 c1_i32_738
  let v790 : BitVec 32 := Scalar.addi c0_i32_739 v789
  v790.toNat
def k0_dev30 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_759 : BitVec 32 := 1#32
  let v802 : BitVec 32 := Scalar.muli v24 c1_i32_759
  let v803 : BitVec 32 := Scalar.addi c0_i32_760 v802
  v803.toNat
def k0_dev31 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_780 : BitVec 32 := 1#32
  let v825 : BitVec 32 := Scalar.muli v24 c1_i32_780
  let v826 : BitVec 32 := Scalar.addi c0_i32_781 v825
  v826.toNat
def k0_dev32 (d0 : Dev nD) : Nat :=
  let c0_i32_802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_801 : BitVec 32 := 1#32
  let v838 : BitVec 32 := Scalar.muli v13 c1_i32_801
  let v839 : BitVec 32 := Scalar.addi c0_i32_802 v838
  v839.toNat
def k0_dev33 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_847 : BitVec 32 := 1#32
  let v899 : BitVec 32 := Scalar.muli v13 c1_i32_847
  let v900 : BitVec 32 := Scalar.addi c0_i32_848 v899
  v900.toNat
def k0_dev34 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_868 : BitVec 32 := 1#32
  let v912 : BitVec 32 := Scalar.muli v24 c1_i32_868
  let v913 : BitVec 32 := Scalar.addi c0_i32_869 v912
  v913.toNat
def k0_dev35 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_889 : BitVec 32 := 1#32
  let v935 : BitVec 32 := Scalar.muli v24 c1_i32_889
  let v936 : BitVec 32 := Scalar.addi c0_i32_890 v935
  v936.toNat
def k0_dev36 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_910 : BitVec 32 := 1#32
  let v948 : BitVec 32 := Scalar.muli v13 c1_i32_910
  let v949 : BitVec 32 := Scalar.addi c0_i32_911 v948
  v949.toNat
def k0_dev37 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_956 : BitVec 32 := 1#32
  let v1009 : BitVec 32 := Scalar.muli v13 c1_i32_956
  let v1010 : BitVec 32 := Scalar.addi c0_i32_957 v1009
  v1010.toNat
def k0_dev38 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_977 : BitVec 32 := 1#32
  let v1022 : BitVec 32 := Scalar.muli v24 c1_i32_977
  let v1023 : BitVec 32 := Scalar.addi c0_i32_978 v1022
  v1023.toNat
def k0_dev39 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_998 : BitVec 32 := 1#32
  let v1045 : BitVec 32 := Scalar.muli v24 c1_i32_998
  let v1046 : BitVec 32 := Scalar.addi c0_i32_999 v1045
  v1046.toNat
def k0_dev40 (d0 : Dev nD) : Nat :=
  let c0_i32_1020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1019 : BitVec 32 := 1#32
  let v1058 : BitVec 32 := Scalar.muli v13 c1_i32_1019
  let v1059 : BitVec 32 := Scalar.addi c0_i32_1020 v1058
  v1059.toNat
def k0_dev41 (d0 : Dev nD) : Nat :=
  let c0_i32_1066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1065 : BitVec 32 := 1#32
  let v1119 : BitVec 32 := Scalar.muli v13 c1_i32_1065
  let v1120 : BitVec 32 := Scalar.addi c0_i32_1066 v1119
  v1120.toNat
def k0_dev42 (d0 : Dev nD) : Nat :=
  let c0_i32_1087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1086 : BitVec 32 := 1#32
  let v1132 : BitVec 32 := Scalar.muli v24 c1_i32_1086
  let v1133 : BitVec 32 := Scalar.addi c0_i32_1087 v1132
  v1133.toNat
def k0_dev43 (d0 : Dev nD) : Nat :=
  let c0_i32_1108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1107 : BitVec 32 := 1#32
  let v1155 : BitVec 32 := Scalar.muli v24 c1_i32_1107
  let v1156 : BitVec 32 := Scalar.addi c0_i32_1108 v1155
  v1156.toNat
def k0_dev44 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1128 : BitVec 32 := 1#32
  let v1168 : BitVec 32 := Scalar.muli v13 c1_i32_1128
  let v1169 : BitVec 32 := Scalar.addi c0_i32_1129 v1168
  v1169.toNat
def k0_dev45 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1174 : BitVec 32 := 1#32
  let v1229 : BitVec 32 := Scalar.muli v13 c1_i32_1174
  let v1230 : BitVec 32 := Scalar.addi c0_i32_1175 v1229
  v1230.toNat
def k0_dev46 (d0 : Dev nD) : Nat :=
  let c0_i32_1196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1195 : BitVec 32 := 1#32
  let v1242 : BitVec 32 := Scalar.muli v24 c1_i32_1195
  let v1243 : BitVec 32 := Scalar.addi c0_i32_1196 v1242
  v1243.toNat
def k0_dev47 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1216 : BitVec 32 := 1#32
  let v1265 : BitVec 32 := Scalar.muli v24 c1_i32_1216
  let v1266 : BitVec 32 := Scalar.addi c0_i32_1217 v1265
  v1266.toNat
def k0_dev48 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1237 : BitVec 32 := 1#32
  let v1278 : BitVec 32 := Scalar.muli v13 c1_i32_1237
  let v1279 : BitVec 32 := Scalar.addi c0_i32_1238 v1278
  v1279.toNat
def k0_dev49 (d0 : Dev nD) : Nat :=
  let c0_i32_1284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1283 : BitVec 32 := 1#32
  let v1339 : BitVec 32 := Scalar.muli v13 c1_i32_1283
  let v1340 : BitVec 32 := Scalar.addi c0_i32_1284 v1339
  v1340.toNat
def k0_dev50 (d0 : Dev nD) : Nat :=
  let c0_i32_1305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1304 : BitVec 32 := 1#32
  let v1352 : BitVec 32 := Scalar.muli v24 c1_i32_1304
  let v1353 : BitVec 32 := Scalar.addi c0_i32_1305 v1352
  v1353.toNat
def k0_dev51 (d0 : Dev nD) : Nat :=
  let c0_i32_1326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1325 : BitVec 32 := 1#32
  let v1375 : BitVec 32 := Scalar.muli v24 c1_i32_1325
  let v1376 : BitVec 32 := Scalar.addi c0_i32_1326 v1375
  v1376.toNat
def k0_dev52 (d0 : Dev nD) : Nat :=
  let c0_i32_1347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1346 : BitVec 32 := 1#32
  let v1388 : BitVec 32 := Scalar.muli v13 c1_i32_1346
  let v1389 : BitVec 32 := Scalar.addi c0_i32_1347 v1388
  v1389.toNat
def k0_dev53 (d0 : Dev nD) : Nat :=
  let c0_i32_1393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1392 : BitVec 32 := 1#32
  let v1449 : BitVec 32 := Scalar.muli v13 c1_i32_1392
  let v1450 : BitVec 32 := Scalar.addi c0_i32_1393 v1449
  v1450.toNat
def k0_dev54 (d0 : Dev nD) : Nat :=
  let c0_i32_1414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1413 : BitVec 32 := 1#32
  let v1462 : BitVec 32 := Scalar.muli v24 c1_i32_1413
  let v1463 : BitVec 32 := Scalar.addi c0_i32_1414 v1462
  v1463.toNat
def k0_dev55 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1434 : BitVec 32 := 1#32
  let v1485 : BitVec 32 := Scalar.muli v24 c1_i32_1434
  let v1486 : BitVec 32 := Scalar.addi c0_i32_1435 v1485
  v1486.toNat
def k0_dev56 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1455 : BitVec 32 := 1#32
  let v1498 : BitVec 32 := Scalar.muli v13 c1_i32_1455
  let v1499 : BitVec 32 := Scalar.addi c0_i32_1456 v1498
  v1499.toNat
def k0_dev57 (d0 : Dev nD) : Nat :=
  let c0_i32_1502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1501 : BitVec 32 := 1#32
  let v1559 : BitVec 32 := Scalar.muli v13 c1_i32_1501
  let v1560 : BitVec 32 := Scalar.addi c0_i32_1502 v1559
  v1560.toNat
def k0_dev58 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1522 : BitVec 32 := 1#32
  let v1572 : BitVec 32 := Scalar.muli v24 c1_i32_1522
  let v1573 : BitVec 32 := Scalar.addi c0_i32_1523 v1572
  v1573.toNat
def k0_dev59 (d0 : Dev nD) : Nat :=
  let c0_i32_1544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1543 : BitVec 32 := 1#32
  let v1595 : BitVec 32 := Scalar.muli v24 c1_i32_1543
  let v1596 : BitVec 32 := Scalar.addi c0_i32_1544 v1595
  v1596.toNat
def k0_dev60 (d0 : Dev nD) : Nat :=
  let c0_i32_1565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1564 : BitVec 32 := 1#32
  let v1608 : BitVec 32 := Scalar.muli v13 c1_i32_1564
  let v1609 : BitVec 32 := Scalar.addi c0_i32_1565 v1608
  v1609.toNat
def k0_dev61 (d0 : Dev nD) : Nat :=
  let c0_i32_1611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1610 : BitVec 32 := 1#32
  let v1669 : BitVec 32 := Scalar.muli v13 c1_i32_1610
  let v1670 : BitVec 32 := Scalar.addi c0_i32_1611 v1669
  v1670.toNat
def k0_dev62 (d0 : Dev nD) : Nat :=
  let c0_i32_1632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1631 : BitVec 32 := 1#32
  let v1682 : BitVec 32 := Scalar.muli v24 c1_i32_1631
  let v1683 : BitVec 32 := Scalar.addi c0_i32_1632 v1682
  v1683.toNat
def k0_dev63 (d0 : Dev nD) : Nat :=
  let c0_i32_1653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1652 : BitVec 32 := 1#32
  let v1705 : BitVec 32 := Scalar.muli v24 c1_i32_1652
  let v1706 : BitVec 32 := Scalar.addi c0_i32_1653 v1705
  v1706.toNat
def k0_dev64 (d0 : Dev nD) : Nat :=
  let c0_i32_1674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1673 : BitVec 32 := 1#32
  let v1718 : BitVec 32 := Scalar.muli v13 c1_i32_1673
  let v1719 : BitVec 32 := Scalar.addi c0_i32_1674 v1718
  v1719.toNat
def k0_dev65 (d0 : Dev nD) : Nat :=
  let c0_i32_1720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1719 : BitVec 32 := 1#32
  let v1779 : BitVec 32 := Scalar.muli v13 c1_i32_1719
  let v1780 : BitVec 32 := Scalar.addi c0_i32_1720 v1779
  v1780.toNat
def k0_dev66 (d0 : Dev nD) : Nat :=
  let c0_i32_1741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1740 : BitVec 32 := 1#32
  let v1792 : BitVec 32 := Scalar.muli v24 c1_i32_1740
  let v1793 : BitVec 32 := Scalar.addi c0_i32_1741 v1792
  v1793.toNat
def k0_dev67 (d0 : Dev nD) : Nat :=
  let c0_i32_1762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1761 : BitVec 32 := 1#32
  let v1815 : BitVec 32 := Scalar.muli v24 c1_i32_1761
  let v1816 : BitVec 32 := Scalar.addi c0_i32_1762 v1815
  v1816.toNat
def k0_dev68 (d0 : Dev nD) : Nat :=
  let c0_i32_1783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1782 : BitVec 32 := 1#32
  let v1828 : BitVec 32 := Scalar.muli v13 c1_i32_1782
  let v1829 : BitVec 32 := Scalar.addi c0_i32_1783 v1828
  v1829.toNat
def k0_dev69 (d0 : Dev nD) : Nat :=
  let c0_i32_1829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1828 : BitVec 32 := 1#32
  let v1889 : BitVec 32 := Scalar.muli v13 c1_i32_1828
  let v1890 : BitVec 32 := Scalar.addi c0_i32_1829 v1889
  v1890.toNat
def k0_dev70 (d0 : Dev nD) : Nat :=
  let c0_i32_1850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1849 : BitVec 32 := 1#32
  let v1902 : BitVec 32 := Scalar.muli v24 c1_i32_1849
  let v1903 : BitVec 32 := Scalar.addi c0_i32_1850 v1902
  v1903.toNat
def k0_dev71 (d0 : Dev nD) : Nat :=
  let c0_i32_1871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1870 : BitVec 32 := 1#32
  let v1925 : BitVec 32 := Scalar.muli v24 c1_i32_1870
  let v1926 : BitVec 32 := Scalar.addi c0_i32_1871 v1925
  v1926.toNat
def k0_dev72 (d0 : Dev nD) : Nat :=
  let c0_i32_1892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1891 : BitVec 32 := 1#32
  let v1938 : BitVec 32 := Scalar.muli v13 c1_i32_1891
  let v1939 : BitVec 32 := Scalar.addi c0_i32_1892 v1938
  v1939.toNat
def k0_dev73 (d0 : Dev nD) : Nat :=
  let c0_i32_1938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1937 : BitVec 32 := 1#32
  let v1999 : BitVec 32 := Scalar.muli v13 c1_i32_1937
  let v2000 : BitVec 32 := Scalar.addi c0_i32_1938 v1999
  v2000.toNat
def k0_dev74 (d0 : Dev nD) : Nat :=
  let c0_i32_1959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1958 : BitVec 32 := 1#32
  let v2012 : BitVec 32 := Scalar.muli v24 c1_i32_1958
  let v2013 : BitVec 32 := Scalar.addi c0_i32_1959 v2012
  v2013.toNat
def k0_dev75 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1979 : BitVec 32 := 1#32
  let v2035 : BitVec 32 := Scalar.muli v24 c1_i32_1979
  let v2036 : BitVec 32 := Scalar.addi c0_i32_1980 v2035
  v2036.toNat
def k0_dev76 (d0 : Dev nD) : Nat :=
  let c0_i32_2001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2000 : BitVec 32 := 1#32
  let v2048 : BitVec 32 := Scalar.muli v13 c1_i32_2000
  let v2049 : BitVec 32 := Scalar.addi c0_i32_2001 v2048
  v2049.toNat
def k0_dev77 (d0 : Dev nD) : Nat :=
  let c0_i32_2047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2046 : BitVec 32 := 1#32
  let v2109 : BitVec 32 := Scalar.muli v13 c1_i32_2046
  let v2110 : BitVec 32 := Scalar.addi c0_i32_2047 v2109
  v2110.toNat
def k0_dev78 (d0 : Dev nD) : Nat :=
  let c0_i32_2068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2067 : BitVec 32 := 1#32
  let v2122 : BitVec 32 := Scalar.muli v24 c1_i32_2067
  let v2123 : BitVec 32 := Scalar.addi c0_i32_2068 v2122
  v2123.toNat
def k0_dev79 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2088 : BitVec 32 := 1#32
  let v2145 : BitVec 32 := Scalar.muli v24 c1_i32_2088
  let v2146 : BitVec 32 := Scalar.addi c0_i32_2089 v2145
  v2146.toNat
def k0_dev80 (d0 : Dev nD) : Nat :=
  let c0_i32_2110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2109 : BitVec 32 := 1#32
  let v2158 : BitVec 32 := Scalar.muli v13 c1_i32_2109
  let v2159 : BitVec 32 := Scalar.addi c0_i32_2110 v2158
  v2159.toNat
def k0_dev81 (d0 : Dev nD) : Nat :=
  let c0_i32_2156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2155 : BitVec 32 := 1#32
  let v2219 : BitVec 32 := Scalar.muli v13 c1_i32_2155
  let v2220 : BitVec 32 := Scalar.addi c0_i32_2156 v2219
  v2220.toNat
def k0_dev82 (d0 : Dev nD) : Nat :=
  let c0_i32_2177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2176 : BitVec 32 := 1#32
  let v2232 : BitVec 32 := Scalar.muli v24 c1_i32_2176
  let v2233 : BitVec 32 := Scalar.addi c0_i32_2177 v2232
  v2233.toNat
def k0_dev83 (d0 : Dev nD) : Nat :=
  let c0_i32_2198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2197 : BitVec 32 := 1#32
  let v2255 : BitVec 32 := Scalar.muli v24 c1_i32_2197
  let v2256 : BitVec 32 := Scalar.addi c0_i32_2198 v2255
  v2256.toNat
def k0_dev84 (d0 : Dev nD) : Nat :=
  let c0_i32_2219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2218 : BitVec 32 := 1#32
  let v2268 : BitVec 32 := Scalar.muli v13 c1_i32_2218
  let v2269 : BitVec 32 := Scalar.addi c0_i32_2219 v2268
  v2269.toNat
def k0_dev85 (d0 : Dev nD) : Nat :=
  let c0_i32_2265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2264 : BitVec 32 := 1#32
  let v2329 : BitVec 32 := Scalar.muli v13 c1_i32_2264
  let v2330 : BitVec 32 := Scalar.addi c0_i32_2265 v2329
  v2330.toNat
def k0_dev86 (d0 : Dev nD) : Nat :=
  let c0_i32_2286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2285 : BitVec 32 := 1#32
  let v2342 : BitVec 32 := Scalar.muli v24 c1_i32_2285
  let v2343 : BitVec 32 := Scalar.addi c0_i32_2286 v2342
  v2343.toNat
def k0_dev87 (d0 : Dev nD) : Nat :=
  let c0_i32_2307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2306 : BitVec 32 := 1#32
  let v2365 : BitVec 32 := Scalar.muli v24 c1_i32_2306
  let v2366 : BitVec 32 := Scalar.addi c0_i32_2307 v2365
  v2366.toNat
def k0_dev88 (d0 : Dev nD) : Nat :=
  let c0_i32_2328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2327 : BitVec 32 := 1#32
  let v2378 : BitVec 32 := Scalar.muli v13 c1_i32_2327
  let v2379 : BitVec 32 := Scalar.addi c0_i32_2328 v2378
  v2379.toNat
def k0_dev89 (d0 : Dev nD) : Nat :=
  let c0_i32_2374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2373 : BitVec 32 := 1#32
  let v2439 : BitVec 32 := Scalar.muli v13 c1_i32_2373
  let v2440 : BitVec 32 := Scalar.addi c0_i32_2374 v2439
  v2440.toNat
def k0_dev90 (d0 : Dev nD) : Nat :=
  let c0_i32_2395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2394 : BitVec 32 := 1#32
  let v2452 : BitVec 32 := Scalar.muli v24 c1_i32_2394
  let v2453 : BitVec 32 := Scalar.addi c0_i32_2395 v2452
  v2453.toNat
def k0_dev91 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2415 : BitVec 32 := 1#32
  let v2475 : BitVec 32 := Scalar.muli v24 c1_i32_2415
  let v2476 : BitVec 32 := Scalar.addi c0_i32_2416 v2475
  v2476.toNat
def k0_dev92 (d0 : Dev nD) : Nat :=
  let c0_i32_2437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2436 : BitVec 32 := 1#32
  let v2488 : BitVec 32 := Scalar.muli v13 c1_i32_2436
  let v2489 : BitVec 32 := Scalar.addi c0_i32_2437 v2488
  v2489.toNat
def k0_dev93 (d0 : Dev nD) : Nat :=
  let c0_i32_2483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2482 : BitVec 32 := 1#32
  let v2549 : BitVec 32 := Scalar.muli v13 c1_i32_2482
  let v2550 : BitVec 32 := Scalar.addi c0_i32_2483 v2549
  v2550.toNat
def k0_dev94 (d0 : Dev nD) : Nat :=
  let c0_i32_2504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2503 : BitVec 32 := 1#32
  let v2562 : BitVec 32 := Scalar.muli v24 c1_i32_2503
  let v2563 : BitVec 32 := Scalar.addi c0_i32_2504 v2562
  v2563.toNat
def k0_dev95 (d0 : Dev nD) : Nat :=
  let c0_i32_2525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2524 : BitVec 32 := 1#32
  let v2585 : BitVec 32 := Scalar.muli v24 c1_i32_2524
  let v2586 : BitVec 32 := Scalar.addi c0_i32_2525 v2585
  v2586.toNat
def k0_dev96 (d0 : Dev nD) : Nat :=
  let c0_i32_2546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2545 : BitVec 32 := 1#32
  let v2598 : BitVec 32 := Scalar.muli v13 c1_i32_2545
  let v2599 : BitVec 32 := Scalar.addi c0_i32_2546 v2598
  v2599.toNat
def k0_dev97 (d0 : Dev nD) : Nat :=
  let c0_i32_2592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2591 : BitVec 32 := 1#32
  let v2659 : BitVec 32 := Scalar.muli v13 c1_i32_2591
  let v2660 : BitVec 32 := Scalar.addi c0_i32_2592 v2659
  v2660.toNat
def k0_dev98 (d0 : Dev nD) : Nat :=
  let c0_i32_2613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2612 : BitVec 32 := 1#32
  let v2672 : BitVec 32 := Scalar.muli v24 c1_i32_2612
  let v2673 : BitVec 32 := Scalar.addi c0_i32_2613 v2672
  v2673.toNat
def k0_dev99 (d0 : Dev nD) : Nat :=
  let c0_i32_2634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2633 : BitVec 32 := 1#32
  let v2695 : BitVec 32 := Scalar.muli v24 c1_i32_2633
  let v2696 : BitVec 32 := Scalar.addi c0_i32_2634 v2695
  v2696.toNat
def k0_dev100 (d0 : Dev nD) : Nat :=
  let c0_i32_2655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2654 : BitVec 32 := 1#32
  let v2708 : BitVec 32 := Scalar.muli v13 c1_i32_2654
  let v2709 : BitVec 32 := Scalar.addi c0_i32_2655 v2708
  v2709.toNat
def k0_dev101 (d0 : Dev nD) : Nat :=
  let c0_i32_2701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2700 : BitVec 32 := 1#32
  let v2769 : BitVec 32 := Scalar.muli v13 c1_i32_2700
  let v2770 : BitVec 32 := Scalar.addi c0_i32_2701 v2769
  v2770.toNat
def k0_dev102 (d0 : Dev nD) : Nat :=
  let c0_i32_2722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2721 : BitVec 32 := 1#32
  let v2782 : BitVec 32 := Scalar.muli v24 c1_i32_2721
  let v2783 : BitVec 32 := Scalar.addi c0_i32_2722 v2782
  v2783.toNat
def k0_dev103 (d0 : Dev nD) : Nat :=
  let c0_i32_2743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2742 : BitVec 32 := 1#32
  let v2805 : BitVec 32 := Scalar.muli v24 c1_i32_2742
  let v2806 : BitVec 32 := Scalar.addi c0_i32_2743 v2805
  v2806.toNat
def k0_dev104 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2763 : BitVec 32 := 1#32
  let v2818 : BitVec 32 := Scalar.muli v13 c1_i32_2763
  let v2819 : BitVec 32 := Scalar.addi c0_i32_2764 v2818
  v2819.toNat
def k0_dev105 (d0 : Dev nD) : Nat :=
  let c0_i32_2810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2809 : BitVec 32 := 1#32
  let v2879 : BitVec 32 := Scalar.muli v13 c1_i32_2809
  let v2880 : BitVec 32 := Scalar.addi c0_i32_2810 v2879
  v2880.toNat
def k0_dev106 (d0 : Dev nD) : Nat :=
  let c0_i32_2831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2830 : BitVec 32 := 1#32
  let v2892 : BitVec 32 := Scalar.muli v24 c1_i32_2830
  let v2893 : BitVec 32 := Scalar.addi c0_i32_2831 v2892
  v2893.toNat
def k0_dev107 (d0 : Dev nD) : Nat :=
  let c0_i32_2852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2851 : BitVec 32 := 1#32
  let v2915 : BitVec 32 := Scalar.muli v24 c1_i32_2851
  let v2916 : BitVec 32 := Scalar.addi c0_i32_2852 v2915
  v2916.toNat
def k0_dev108 (d0 : Dev nD) : Nat :=
  let c0_i32_2873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2872 : BitVec 32 := 1#32
  let v2928 : BitVec 32 := Scalar.muli v13 c1_i32_2872
  let v2929 : BitVec 32 := Scalar.addi c0_i32_2873 v2928
  v2929.toNat
def k0_dev109 (d0 : Dev nD) : Nat :=
  let c0_i32_2919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2918 : BitVec 32 := 1#32
  let v2989 : BitVec 32 := Scalar.muli v13 c1_i32_2918
  let v2990 : BitVec 32 := Scalar.addi c0_i32_2919 v2989
  v2990.toNat
def k0_dev110 (d0 : Dev nD) : Nat :=
  let c0_i32_2940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2939 : BitVec 32 := 1#32
  let v3002 : BitVec 32 := Scalar.muli v24 c1_i32_2939
  let v3003 : BitVec 32 := Scalar.addi c0_i32_2940 v3002
  v3003.toNat
def k0_dev111 (d0 : Dev nD) : Nat :=
  let c0_i32_2961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2960 : BitVec 32 := 1#32
  let v3025 : BitVec 32 := Scalar.muli v24 c1_i32_2960
  let v3026 : BitVec 32 := Scalar.addi c0_i32_2961 v3025
  v3026.toNat
def k0_dev112 (d0 : Dev nD) : Nat :=
  let c0_i32_2982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2981 : BitVec 32 := 1#32
  let v3038 : BitVec 32 := Scalar.muli v13 c1_i32_2981
  let v3039 : BitVec 32 := Scalar.addi c0_i32_2982 v3038
  v3039.toNat
def k0_dev113 (d0 : Dev nD) : Nat :=
  let c0_i32_3028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3027 : BitVec 32 := 1#32
  let v3099 : BitVec 32 := Scalar.muli v13 c1_i32_3027
  let v3100 : BitVec 32 := Scalar.addi c0_i32_3028 v3099
  v3100.toNat
def k0_dev114 (d0 : Dev nD) : Nat :=
  let c0_i32_3049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3048 : BitVec 32 := 1#32
  let v3112 : BitVec 32 := Scalar.muli v24 c1_i32_3048
  let v3113 : BitVec 32 := Scalar.addi c0_i32_3049 v3112
  v3113.toNat
def k0_dev115 (d0 : Dev nD) : Nat :=
  let c0_i32_3070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3069 : BitVec 32 := 1#32
  let v3135 : BitVec 32 := Scalar.muli v24 c1_i32_3069
  let v3136 : BitVec 32 := Scalar.addi c0_i32_3070 v3135
  v3136.toNat
def k0_dev116 (d0 : Dev nD) : Nat :=
  let c0_i32_3091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3090 : BitVec 32 := 1#32
  let v3148 : BitVec 32 := Scalar.muli v13 c1_i32_3090
  let v3149 : BitVec 32 := Scalar.addi c0_i32_3091 v3148
  v3149.toNat
def k0_dev117 (d0 : Dev nD) : Nat :=
  let c0_i32_3137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3136 : BitVec 32 := 1#32
  let v3209 : BitVec 32 := Scalar.muli v13 c1_i32_3136
  let v3210 : BitVec 32 := Scalar.addi c0_i32_3137 v3209
  v3210.toNat
def k0_dev118 (d0 : Dev nD) : Nat :=
  let c0_i32_3158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3157 : BitVec 32 := 1#32
  let v3222 : BitVec 32 := Scalar.muli v24 c1_i32_3157
  let v3223 : BitVec 32 := Scalar.addi c0_i32_3158 v3222
  v3223.toNat
def k0_dev119 (d0 : Dev nD) : Nat :=
  let c0_i32_3179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3178 : BitVec 32 := 1#32
  let v3245 : BitVec 32 := Scalar.muli v24 c1_i32_3178
  let v3246 : BitVec 32 := Scalar.addi c0_i32_3179 v3245
  v3246.toNat
def k0_dev120 (d0 : Dev nD) : Nat :=
  let c0_i32_3200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3199 : BitVec 32 := 1#32
  let v3258 : BitVec 32 := Scalar.muli v13 c1_i32_3199
  let v3259 : BitVec 32 := Scalar.addi c0_i32_3200 v3258
  v3259.toNat
def k0_dev121 (d0 : Dev nD) : Nat :=
  let c0_i32_3246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3245 : BitVec 32 := 1#32
  let v3319 : BitVec 32 := Scalar.muli v13 c1_i32_3245
  let v3320 : BitVec 32 := Scalar.addi c0_i32_3246 v3319
  v3320.toNat
def k0_dev122 (d0 : Dev nD) : Nat :=
  let c0_i32_3267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3266 : BitVec 32 := 1#32
  let v3332 : BitVec 32 := Scalar.muli v24 c1_i32_3266
  let v3333 : BitVec 32 := Scalar.addi c0_i32_3267 v3332
  v3333.toNat
def k0_dev123 (d0 : Dev nD) : Nat :=
  let c0_i32_3288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3287 : BitVec 32 := 1#32
  let v3355 : BitVec 32 := Scalar.muli v24 c1_i32_3287
  let v3356 : BitVec 32 := Scalar.addi c0_i32_3288 v3355
  v3356.toNat
def k0_dev124 (d0 : Dev nD) : Nat :=
  let c0_i32_3309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3308 : BitVec 32 := 1#32
  let v3368 : BitVec 32 := Scalar.muli v13 c1_i32_3308
  let v3369 : BitVec 32 := Scalar.addi c0_i32_3309 v3368
  v3369.toNat
def k0_dev125 (d0 : Dev nD) : Nat :=
  let c0_i32_3355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3354 : BitVec 32 := 1#32
  let v3429 : BitVec 32 := Scalar.muli v13 c1_i32_3354
  let v3430 : BitVec 32 := Scalar.addi c0_i32_3355 v3429
  v3430.toNat
def k0_dev126 (d0 : Dev nD) : Nat :=
  let c0_i32_3374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3373 : BitVec 32 := 1#32
  let v3445 : BitVec 32 := Scalar.muli v24 c1_i32_3373
  let v3446 : BitVec 32 := Scalar.addi c0_i32_3374 v3445
  v3446.toNat
def k0_dev127 (d0 : Dev nD) : Nat :=
  let c0_i32_3442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3430 : BitVec 32 := 1#32
  let v3491 : BitVec 32 := Scalar.addi v2 c1_i32_3430
  let c32_i32_3431 : BitVec 32 := 32#32
  let c0_i32_3432 : BitVec 32 := 0#32
  let v3492 : BitVec 1 := Scalar.cmpi .eq c32_i32_3431 c0_i32_3432
  let c1_i32_3433 : BitVec 32 := 1#32
  let v3493 : BitVec 32 := Scalar.select v3492 c1_i32_3433 c32_i32_3431
  let v3494 : BitVec 32 := Scalar.remsi v3491 v3493
  let c0_i32_3435 : BitVec 32 := 0#32
  let v3496 : BitVec 1 := Scalar.cmpi .slt v3494 c0_i32_3435
  let c0_i32_3436 : BitVec 32 := 0#32
  let v3497 : BitVec 1 := Scalar.cmpi .slt v3493 c0_i32_3436
  let v3498 : BitVec 1 := Scalar.xori v3496 v3497
  let c0_i32_3434 : BitVec 32 := 0#32
  let v3495 : BitVec 1 := Scalar.cmpi .ne v3494 c0_i32_3434
  let v3499 : BitVec 1 := Scalar.andi v3498 v3495
  let v3500 : BitVec 32 := Scalar.addi v3494 v3493
  let v3501 : BitVec 32 := Scalar.select v3499 v3500 v3494
  let c1_i32_3441 : BitVec 32 := 1#32
  let v3502 : BitVec 32 := Scalar.muli v3501 c1_i32_3441
  let v3503 : BitVec 32 := Scalar.addi c0_i32_3442 v3502
  v3503.toNat
def k0_dev128 (d0 : Dev nD) : Nat :=
  let c0_i32_3459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3447 : BitVec 32 := 2#32
  let v3512 : BitVec 32 := Scalar.addi v2 c2_i32_3447
  let c32_i32_3448 : BitVec 32 := 32#32
  let c0_i32_3449 : BitVec 32 := 0#32
  let v3513 : BitVec 1 := Scalar.cmpi .eq c32_i32_3448 c0_i32_3449
  let c1_i32_3450 : BitVec 32 := 1#32
  let v3514 : BitVec 32 := Scalar.select v3513 c1_i32_3450 c32_i32_3448
  let v3515 : BitVec 32 := Scalar.remsi v3512 v3514
  let c0_i32_3452 : BitVec 32 := 0#32
  let v3517 : BitVec 1 := Scalar.cmpi .slt v3515 c0_i32_3452
  let c0_i32_3453 : BitVec 32 := 0#32
  let v3518 : BitVec 1 := Scalar.cmpi .slt v3514 c0_i32_3453
  let v3519 : BitVec 1 := Scalar.xori v3517 v3518
  let c0_i32_3451 : BitVec 32 := 0#32
  let v3516 : BitVec 1 := Scalar.cmpi .ne v3515 c0_i32_3451
  let v3520 : BitVec 1 := Scalar.andi v3519 v3516
  let v3521 : BitVec 32 := Scalar.addi v3515 v3514
  let v3522 : BitVec 32 := Scalar.select v3520 v3521 v3515
  let c1_i32_3458 : BitVec 32 := 1#32
  let v3523 : BitVec 32 := Scalar.muli v3522 c1_i32_3458
  let v3524 : BitVec 32 := Scalar.addi c0_i32_3459 v3523
  v3524.toNat
def k0_dev129 (d0 : Dev nD) : Nat :=
  let c0_i32_3476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3464 : BitVec 32 := 3#32
  let v3533 : BitVec 32 := Scalar.addi v2 c3_i32_3464
  let c32_i32_3465 : BitVec 32 := 32#32
  let c0_i32_3466 : BitVec 32 := 0#32
  let v3534 : BitVec 1 := Scalar.cmpi .eq c32_i32_3465 c0_i32_3466
  let c1_i32_3467 : BitVec 32 := 1#32
  let v3535 : BitVec 32 := Scalar.select v3534 c1_i32_3467 c32_i32_3465
  let v3536 : BitVec 32 := Scalar.remsi v3533 v3535
  let c0_i32_3469 : BitVec 32 := 0#32
  let v3538 : BitVec 1 := Scalar.cmpi .slt v3536 c0_i32_3469
  let c0_i32_3470 : BitVec 32 := 0#32
  let v3539 : BitVec 1 := Scalar.cmpi .slt v3535 c0_i32_3470
  let v3540 : BitVec 1 := Scalar.xori v3538 v3539
  let c0_i32_3468 : BitVec 32 := 0#32
  let v3537 : BitVec 1 := Scalar.cmpi .ne v3536 c0_i32_3468
  let v3541 : BitVec 1 := Scalar.andi v3540 v3537
  let v3542 : BitVec 32 := Scalar.addi v3536 v3535
  let v3543 : BitVec 32 := Scalar.select v3541 v3542 v3536
  let c1_i32_3475 : BitVec 32 := 1#32
  let v3544 : BitVec 32 := Scalar.muli v3543 c1_i32_3475
  let v3545 : BitVec 32 := Scalar.addi c0_i32_3476 v3544
  v3545.toNat
def k0_dev130 (d0 : Dev nD) : Nat :=
  let c0_i32_3493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3481 : BitVec 32 := 4#32
  let v3554 : BitVec 32 := Scalar.addi v2 c4_i32_3481
  let c32_i32_3482 : BitVec 32 := 32#32
  let c0_i32_3483 : BitVec 32 := 0#32
  let v3555 : BitVec 1 := Scalar.cmpi .eq c32_i32_3482 c0_i32_3483
  let c1_i32_3484 : BitVec 32 := 1#32
  let v3556 : BitVec 32 := Scalar.select v3555 c1_i32_3484 c32_i32_3482
  let v3557 : BitVec 32 := Scalar.remsi v3554 v3556
  let c0_i32_3486 : BitVec 32 := 0#32
  let v3559 : BitVec 1 := Scalar.cmpi .slt v3557 c0_i32_3486
  let c0_i32_3487 : BitVec 32 := 0#32
  let v3560 : BitVec 1 := Scalar.cmpi .slt v3556 c0_i32_3487
  let v3561 : BitVec 1 := Scalar.xori v3559 v3560
  let c0_i32_3485 : BitVec 32 := 0#32
  let v3558 : BitVec 1 := Scalar.cmpi .ne v3557 c0_i32_3485
  let v3562 : BitVec 1 := Scalar.andi v3561 v3558
  let v3563 : BitVec 32 := Scalar.addi v3557 v3556
  let v3564 : BitVec 32 := Scalar.select v3562 v3563 v3557
  let c1_i32_3492 : BitVec 32 := 1#32
  let v3565 : BitVec 32 := Scalar.muli v3564 c1_i32_3492
  let v3566 : BitVec 32 := Scalar.addi c0_i32_3493 v3565
  v3566.toNat
def k0_dev131 (d0 : Dev nD) : Nat :=
  let c0_i32_3510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3498 : BitVec 32 := 5#32
  let v3575 : BitVec 32 := Scalar.addi v2 c5_i32_3498
  let c32_i32_3499 : BitVec 32 := 32#32
  let c0_i32_3500 : BitVec 32 := 0#32
  let v3576 : BitVec 1 := Scalar.cmpi .eq c32_i32_3499 c0_i32_3500
  let c1_i32_3501 : BitVec 32 := 1#32
  let v3577 : BitVec 32 := Scalar.select v3576 c1_i32_3501 c32_i32_3499
  let v3578 : BitVec 32 := Scalar.remsi v3575 v3577
  let c0_i32_3503 : BitVec 32 := 0#32
  let v3580 : BitVec 1 := Scalar.cmpi .slt v3578 c0_i32_3503
  let c0_i32_3504 : BitVec 32 := 0#32
  let v3581 : BitVec 1 := Scalar.cmpi .slt v3577 c0_i32_3504
  let v3582 : BitVec 1 := Scalar.xori v3580 v3581
  let c0_i32_3502 : BitVec 32 := 0#32
  let v3579 : BitVec 1 := Scalar.cmpi .ne v3578 c0_i32_3502
  let v3583 : BitVec 1 := Scalar.andi v3582 v3579
  let v3584 : BitVec 32 := Scalar.addi v3578 v3577
  let v3585 : BitVec 32 := Scalar.select v3583 v3584 v3578
  let c1_i32_3509 : BitVec 32 := 1#32
  let v3586 : BitVec 32 := Scalar.muli v3585 c1_i32_3509
  let v3587 : BitVec 32 := Scalar.addi c0_i32_3510 v3586
  v3587.toNat
def k0_dev132 (d0 : Dev nD) : Nat :=
  let c0_i32_3527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3515 : BitVec 32 := 6#32
  let v3596 : BitVec 32 := Scalar.addi v2 c6_i32_3515
  let c32_i32_3516 : BitVec 32 := 32#32
  let c0_i32_3517 : BitVec 32 := 0#32
  let v3597 : BitVec 1 := Scalar.cmpi .eq c32_i32_3516 c0_i32_3517
  let c1_i32_3518 : BitVec 32 := 1#32
  let v3598 : BitVec 32 := Scalar.select v3597 c1_i32_3518 c32_i32_3516
  let v3599 : BitVec 32 := Scalar.remsi v3596 v3598
  let c0_i32_3520 : BitVec 32 := 0#32
  let v3601 : BitVec 1 := Scalar.cmpi .slt v3599 c0_i32_3520
  let c0_i32_3521 : BitVec 32 := 0#32
  let v3602 : BitVec 1 := Scalar.cmpi .slt v3598 c0_i32_3521
  let v3603 : BitVec 1 := Scalar.xori v3601 v3602
  let c0_i32_3519 : BitVec 32 := 0#32
  let v3600 : BitVec 1 := Scalar.cmpi .ne v3599 c0_i32_3519
  let v3604 : BitVec 1 := Scalar.andi v3603 v3600
  let v3605 : BitVec 32 := Scalar.addi v3599 v3598
  let v3606 : BitVec 32 := Scalar.select v3604 v3605 v3599
  let c1_i32_3526 : BitVec 32 := 1#32
  let v3607 : BitVec 32 := Scalar.muli v3606 c1_i32_3526
  let v3608 : BitVec 32 := Scalar.addi c0_i32_3527 v3607
  v3608.toNat
def k0_dev133 (d0 : Dev nD) : Nat :=
  let c0_i32_3544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3532 : BitVec 32 := 7#32
  let v3617 : BitVec 32 := Scalar.addi v2 c7_i32_3532
  let c32_i32_3533 : BitVec 32 := 32#32
  let c0_i32_3534 : BitVec 32 := 0#32
  let v3618 : BitVec 1 := Scalar.cmpi .eq c32_i32_3533 c0_i32_3534
  let c1_i32_3535 : BitVec 32 := 1#32
  let v3619 : BitVec 32 := Scalar.select v3618 c1_i32_3535 c32_i32_3533
  let v3620 : BitVec 32 := Scalar.remsi v3617 v3619
  let c0_i32_3537 : BitVec 32 := 0#32
  let v3622 : BitVec 1 := Scalar.cmpi .slt v3620 c0_i32_3537
  let c0_i32_3538 : BitVec 32 := 0#32
  let v3623 : BitVec 1 := Scalar.cmpi .slt v3619 c0_i32_3538
  let v3624 : BitVec 1 := Scalar.xori v3622 v3623
  let c0_i32_3536 : BitVec 32 := 0#32
  let v3621 : BitVec 1 := Scalar.cmpi .ne v3620 c0_i32_3536
  let v3625 : BitVec 1 := Scalar.andi v3624 v3621
  let v3626 : BitVec 32 := Scalar.addi v3620 v3619
  let v3627 : BitVec 32 := Scalar.select v3625 v3626 v3620
  let c1_i32_3543 : BitVec 32 := 1#32
  let v3628 : BitVec 32 := Scalar.muli v3627 c1_i32_3543
  let v3629 : BitVec 32 := Scalar.addi c0_i32_3544 v3628
  v3629.toNat
def k0_dev134 (d0 : Dev nD) : Nat :=
  let c0_i32_3561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3549 : BitVec 32 := 8#32
  let v3638 : BitVec 32 := Scalar.addi v2 c8_i32_3549
  let c32_i32_3550 : BitVec 32 := 32#32
  let c0_i32_3551 : BitVec 32 := 0#32
  let v3639 : BitVec 1 := Scalar.cmpi .eq c32_i32_3550 c0_i32_3551
  let c1_i32_3552 : BitVec 32 := 1#32
  let v3640 : BitVec 32 := Scalar.select v3639 c1_i32_3552 c32_i32_3550
  let v3641 : BitVec 32 := Scalar.remsi v3638 v3640
  let c0_i32_3554 : BitVec 32 := 0#32
  let v3643 : BitVec 1 := Scalar.cmpi .slt v3641 c0_i32_3554
  let c0_i32_3555 : BitVec 32 := 0#32
  let v3644 : BitVec 1 := Scalar.cmpi .slt v3640 c0_i32_3555
  let v3645 : BitVec 1 := Scalar.xori v3643 v3644
  let c0_i32_3553 : BitVec 32 := 0#32
  let v3642 : BitVec 1 := Scalar.cmpi .ne v3641 c0_i32_3553
  let v3646 : BitVec 1 := Scalar.andi v3645 v3642
  let v3647 : BitVec 32 := Scalar.addi v3641 v3640
  let v3648 : BitVec 32 := Scalar.select v3646 v3647 v3641
  let c1_i32_3560 : BitVec 32 := 1#32
  let v3649 : BitVec 32 := Scalar.muli v3648 c1_i32_3560
  let v3650 : BitVec 32 := Scalar.addi c0_i32_3561 v3649
  v3650.toNat
def k0_dev135 (d0 : Dev nD) : Nat :=
  let c0_i32_3578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3566 : BitVec 32 := 9#32
  let v3659 : BitVec 32 := Scalar.addi v2 c9_i32_3566
  let c32_i32_3567 : BitVec 32 := 32#32
  let c0_i32_3568 : BitVec 32 := 0#32
  let v3660 : BitVec 1 := Scalar.cmpi .eq c32_i32_3567 c0_i32_3568
  let c1_i32_3569 : BitVec 32 := 1#32
  let v3661 : BitVec 32 := Scalar.select v3660 c1_i32_3569 c32_i32_3567
  let v3662 : BitVec 32 := Scalar.remsi v3659 v3661
  let c0_i32_3571 : BitVec 32 := 0#32
  let v3664 : BitVec 1 := Scalar.cmpi .slt v3662 c0_i32_3571
  let c0_i32_3572 : BitVec 32 := 0#32
  let v3665 : BitVec 1 := Scalar.cmpi .slt v3661 c0_i32_3572
  let v3666 : BitVec 1 := Scalar.xori v3664 v3665
  let c0_i32_3570 : BitVec 32 := 0#32
  let v3663 : BitVec 1 := Scalar.cmpi .ne v3662 c0_i32_3570
  let v3667 : BitVec 1 := Scalar.andi v3666 v3663
  let v3668 : BitVec 32 := Scalar.addi v3662 v3661
  let v3669 : BitVec 32 := Scalar.select v3667 v3668 v3662
  let c1_i32_3577 : BitVec 32 := 1#32
  let v3670 : BitVec 32 := Scalar.muli v3669 c1_i32_3577
  let v3671 : BitVec 32 := Scalar.addi c0_i32_3578 v3670
  v3671.toNat
def k0_dev136 (d0 : Dev nD) : Nat :=
  let c0_i32_3595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3583 : BitVec 32 := 10#32
  let v3680 : BitVec 32 := Scalar.addi v2 c10_i32_3583
  let c32_i32_3584 : BitVec 32 := 32#32
  let c0_i32_3585 : BitVec 32 := 0#32
  let v3681 : BitVec 1 := Scalar.cmpi .eq c32_i32_3584 c0_i32_3585
  let c1_i32_3586 : BitVec 32 := 1#32
  let v3682 : BitVec 32 := Scalar.select v3681 c1_i32_3586 c32_i32_3584
  let v3683 : BitVec 32 := Scalar.remsi v3680 v3682
  let c0_i32_3588 : BitVec 32 := 0#32
  let v3685 : BitVec 1 := Scalar.cmpi .slt v3683 c0_i32_3588
  let c0_i32_3589 : BitVec 32 := 0#32
  let v3686 : BitVec 1 := Scalar.cmpi .slt v3682 c0_i32_3589
  let v3687 : BitVec 1 := Scalar.xori v3685 v3686
  let c0_i32_3587 : BitVec 32 := 0#32
  let v3684 : BitVec 1 := Scalar.cmpi .ne v3683 c0_i32_3587
  let v3688 : BitVec 1 := Scalar.andi v3687 v3684
  let v3689 : BitVec 32 := Scalar.addi v3683 v3682
  let v3690 : BitVec 32 := Scalar.select v3688 v3689 v3683
  let c1_i32_3594 : BitVec 32 := 1#32
  let v3691 : BitVec 32 := Scalar.muli v3690 c1_i32_3594
  let v3692 : BitVec 32 := Scalar.addi c0_i32_3595 v3691
  v3692.toNat
def k0_dev137 (d0 : Dev nD) : Nat :=
  let c0_i32_3612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3600 : BitVec 32 := 11#32
  let v3701 : BitVec 32 := Scalar.addi v2 c11_i32_3600
  let c32_i32_3601 : BitVec 32 := 32#32
  let c0_i32_3602 : BitVec 32 := 0#32
  let v3702 : BitVec 1 := Scalar.cmpi .eq c32_i32_3601 c0_i32_3602
  let c1_i32_3603 : BitVec 32 := 1#32
  let v3703 : BitVec 32 := Scalar.select v3702 c1_i32_3603 c32_i32_3601
  let v3704 : BitVec 32 := Scalar.remsi v3701 v3703
  let c0_i32_3605 : BitVec 32 := 0#32
  let v3706 : BitVec 1 := Scalar.cmpi .slt v3704 c0_i32_3605
  let c0_i32_3606 : BitVec 32 := 0#32
  let v3707 : BitVec 1 := Scalar.cmpi .slt v3703 c0_i32_3606
  let v3708 : BitVec 1 := Scalar.xori v3706 v3707
  let c0_i32_3604 : BitVec 32 := 0#32
  let v3705 : BitVec 1 := Scalar.cmpi .ne v3704 c0_i32_3604
  let v3709 : BitVec 1 := Scalar.andi v3708 v3705
  let v3710 : BitVec 32 := Scalar.addi v3704 v3703
  let v3711 : BitVec 32 := Scalar.select v3709 v3710 v3704
  let c1_i32_3611 : BitVec 32 := 1#32
  let v3712 : BitVec 32 := Scalar.muli v3711 c1_i32_3611
  let v3713 : BitVec 32 := Scalar.addi c0_i32_3612 v3712
  v3713.toNat
def k0_dev138 (d0 : Dev nD) : Nat :=
  let c0_i32_3629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3617 : BitVec 32 := 12#32
  let v3722 : BitVec 32 := Scalar.addi v2 c12_i32_3617
  let c32_i32_3618 : BitVec 32 := 32#32
  let c0_i32_3619 : BitVec 32 := 0#32
  let v3723 : BitVec 1 := Scalar.cmpi .eq c32_i32_3618 c0_i32_3619
  let c1_i32_3620 : BitVec 32 := 1#32
  let v3724 : BitVec 32 := Scalar.select v3723 c1_i32_3620 c32_i32_3618
  let v3725 : BitVec 32 := Scalar.remsi v3722 v3724
  let c0_i32_3622 : BitVec 32 := 0#32
  let v3727 : BitVec 1 := Scalar.cmpi .slt v3725 c0_i32_3622
  let c0_i32_3623 : BitVec 32 := 0#32
  let v3728 : BitVec 1 := Scalar.cmpi .slt v3724 c0_i32_3623
  let v3729 : BitVec 1 := Scalar.xori v3727 v3728
  let c0_i32_3621 : BitVec 32 := 0#32
  let v3726 : BitVec 1 := Scalar.cmpi .ne v3725 c0_i32_3621
  let v3730 : BitVec 1 := Scalar.andi v3729 v3726
  let v3731 : BitVec 32 := Scalar.addi v3725 v3724
  let v3732 : BitVec 32 := Scalar.select v3730 v3731 v3725
  let c1_i32_3628 : BitVec 32 := 1#32
  let v3733 : BitVec 32 := Scalar.muli v3732 c1_i32_3628
  let v3734 : BitVec 32 := Scalar.addi c0_i32_3629 v3733
  v3734.toNat
def k0_dev139 (d0 : Dev nD) : Nat :=
  let c0_i32_3646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3634 : BitVec 32 := 13#32
  let v3743 : BitVec 32 := Scalar.addi v2 c13_i32_3634
  let c32_i32_3635 : BitVec 32 := 32#32
  let c0_i32_3636 : BitVec 32 := 0#32
  let v3744 : BitVec 1 := Scalar.cmpi .eq c32_i32_3635 c0_i32_3636
  let c1_i32_3637 : BitVec 32 := 1#32
  let v3745 : BitVec 32 := Scalar.select v3744 c1_i32_3637 c32_i32_3635
  let v3746 : BitVec 32 := Scalar.remsi v3743 v3745
  let c0_i32_3639 : BitVec 32 := 0#32
  let v3748 : BitVec 1 := Scalar.cmpi .slt v3746 c0_i32_3639
  let c0_i32_3640 : BitVec 32 := 0#32
  let v3749 : BitVec 1 := Scalar.cmpi .slt v3745 c0_i32_3640
  let v3750 : BitVec 1 := Scalar.xori v3748 v3749
  let c0_i32_3638 : BitVec 32 := 0#32
  let v3747 : BitVec 1 := Scalar.cmpi .ne v3746 c0_i32_3638
  let v3751 : BitVec 1 := Scalar.andi v3750 v3747
  let v3752 : BitVec 32 := Scalar.addi v3746 v3745
  let v3753 : BitVec 32 := Scalar.select v3751 v3752 v3746
  let c1_i32_3645 : BitVec 32 := 1#32
  let v3754 : BitVec 32 := Scalar.muli v3753 c1_i32_3645
  let v3755 : BitVec 32 := Scalar.addi c0_i32_3646 v3754
  v3755.toNat
def k0_dev140 (d0 : Dev nD) : Nat :=
  let c0_i32_3663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3651 : BitVec 32 := 14#32
  let v3764 : BitVec 32 := Scalar.addi v2 c14_i32_3651
  let c32_i32_3652 : BitVec 32 := 32#32
  let c0_i32_3653 : BitVec 32 := 0#32
  let v3765 : BitVec 1 := Scalar.cmpi .eq c32_i32_3652 c0_i32_3653
  let c1_i32_3654 : BitVec 32 := 1#32
  let v3766 : BitVec 32 := Scalar.select v3765 c1_i32_3654 c32_i32_3652
  let v3767 : BitVec 32 := Scalar.remsi v3764 v3766
  let c0_i32_3656 : BitVec 32 := 0#32
  let v3769 : BitVec 1 := Scalar.cmpi .slt v3767 c0_i32_3656
  let c0_i32_3657 : BitVec 32 := 0#32
  let v3770 : BitVec 1 := Scalar.cmpi .slt v3766 c0_i32_3657
  let v3771 : BitVec 1 := Scalar.xori v3769 v3770
  let c0_i32_3655 : BitVec 32 := 0#32
  let v3768 : BitVec 1 := Scalar.cmpi .ne v3767 c0_i32_3655
  let v3772 : BitVec 1 := Scalar.andi v3771 v3768
  let v3773 : BitVec 32 := Scalar.addi v3767 v3766
  let v3774 : BitVec 32 := Scalar.select v3772 v3773 v3767
  let c1_i32_3662 : BitVec 32 := 1#32
  let v3775 : BitVec 32 := Scalar.muli v3774 c1_i32_3662
  let v3776 : BitVec 32 := Scalar.addi c0_i32_3663 v3775
  v3776.toNat
def k0_dev141 (d0 : Dev nD) : Nat :=
  let c0_i32_3680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3668 : BitVec 32 := 15#32
  let v3785 : BitVec 32 := Scalar.addi v2 c15_i32_3668
  let c32_i32_3669 : BitVec 32 := 32#32
  let c0_i32_3670 : BitVec 32 := 0#32
  let v3786 : BitVec 1 := Scalar.cmpi .eq c32_i32_3669 c0_i32_3670
  let c1_i32_3671 : BitVec 32 := 1#32
  let v3787 : BitVec 32 := Scalar.select v3786 c1_i32_3671 c32_i32_3669
  let v3788 : BitVec 32 := Scalar.remsi v3785 v3787
  let c0_i32_3673 : BitVec 32 := 0#32
  let v3790 : BitVec 1 := Scalar.cmpi .slt v3788 c0_i32_3673
  let c0_i32_3674 : BitVec 32 := 0#32
  let v3791 : BitVec 1 := Scalar.cmpi .slt v3787 c0_i32_3674
  let v3792 : BitVec 1 := Scalar.xori v3790 v3791
  let c0_i32_3672 : BitVec 32 := 0#32
  let v3789 : BitVec 1 := Scalar.cmpi .ne v3788 c0_i32_3672
  let v3793 : BitVec 1 := Scalar.andi v3792 v3789
  let v3794 : BitVec 32 := Scalar.addi v3788 v3787
  let v3795 : BitVec 32 := Scalar.select v3793 v3794 v3788
  let c1_i32_3679 : BitVec 32 := 1#32
  let v3796 : BitVec 32 := Scalar.muli v3795 c1_i32_3679
  let v3797 : BitVec 32 := Scalar.addi c0_i32_3680 v3796
  v3797.toNat
def k0_dev142 (d0 : Dev nD) : Nat :=
  let c0_i32_3697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3685 : BitVec 32 := 16#32
  let v3806 : BitVec 32 := Scalar.addi v2 c16_i32_3685
  let c32_i32_3686 : BitVec 32 := 32#32
  let c0_i32_3687 : BitVec 32 := 0#32
  let v3807 : BitVec 1 := Scalar.cmpi .eq c32_i32_3686 c0_i32_3687
  let c1_i32_3688 : BitVec 32 := 1#32
  let v3808 : BitVec 32 := Scalar.select v3807 c1_i32_3688 c32_i32_3686
  let v3809 : BitVec 32 := Scalar.remsi v3806 v3808
  let c0_i32_3690 : BitVec 32 := 0#32
  let v3811 : BitVec 1 := Scalar.cmpi .slt v3809 c0_i32_3690
  let c0_i32_3691 : BitVec 32 := 0#32
  let v3812 : BitVec 1 := Scalar.cmpi .slt v3808 c0_i32_3691
  let v3813 : BitVec 1 := Scalar.xori v3811 v3812
  let c0_i32_3689 : BitVec 32 := 0#32
  let v3810 : BitVec 1 := Scalar.cmpi .ne v3809 c0_i32_3689
  let v3814 : BitVec 1 := Scalar.andi v3813 v3810
  let v3815 : BitVec 32 := Scalar.addi v3809 v3808
  let v3816 : BitVec 32 := Scalar.select v3814 v3815 v3809
  let c1_i32_3696 : BitVec 32 := 1#32
  let v3817 : BitVec 32 := Scalar.muli v3816 c1_i32_3696
  let v3818 : BitVec 32 := Scalar.addi c0_i32_3697 v3817
  v3818.toNat
def k0_dev143 (d0 : Dev nD) : Nat :=
  let c0_i32_3714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3702 : BitVec 32 := 17#32
  let v3827 : BitVec 32 := Scalar.addi v2 c17_i32_3702
  let c32_i32_3703 : BitVec 32 := 32#32
  let c0_i32_3704 : BitVec 32 := 0#32
  let v3828 : BitVec 1 := Scalar.cmpi .eq c32_i32_3703 c0_i32_3704
  let c1_i32_3705 : BitVec 32 := 1#32
  let v3829 : BitVec 32 := Scalar.select v3828 c1_i32_3705 c32_i32_3703
  let v3830 : BitVec 32 := Scalar.remsi v3827 v3829
  let c0_i32_3707 : BitVec 32 := 0#32
  let v3832 : BitVec 1 := Scalar.cmpi .slt v3830 c0_i32_3707
  let c0_i32_3708 : BitVec 32 := 0#32
  let v3833 : BitVec 1 := Scalar.cmpi .slt v3829 c0_i32_3708
  let v3834 : BitVec 1 := Scalar.xori v3832 v3833
  let c0_i32_3706 : BitVec 32 := 0#32
  let v3831 : BitVec 1 := Scalar.cmpi .ne v3830 c0_i32_3706
  let v3835 : BitVec 1 := Scalar.andi v3834 v3831
  let v3836 : BitVec 32 := Scalar.addi v3830 v3829
  let v3837 : BitVec 32 := Scalar.select v3835 v3836 v3830
  let c1_i32_3713 : BitVec 32 := 1#32
  let v3838 : BitVec 32 := Scalar.muli v3837 c1_i32_3713
  let v3839 : BitVec 32 := Scalar.addi c0_i32_3714 v3838
  v3839.toNat
def k0_dev144 (d0 : Dev nD) : Nat :=
  let c0_i32_3731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3719 : BitVec 32 := 18#32
  let v3848 : BitVec 32 := Scalar.addi v2 c18_i32_3719
  let c32_i32_3720 : BitVec 32 := 32#32
  let c0_i32_3721 : BitVec 32 := 0#32
  let v3849 : BitVec 1 := Scalar.cmpi .eq c32_i32_3720 c0_i32_3721
  let c1_i32_3722 : BitVec 32 := 1#32
  let v3850 : BitVec 32 := Scalar.select v3849 c1_i32_3722 c32_i32_3720
  let v3851 : BitVec 32 := Scalar.remsi v3848 v3850
  let c0_i32_3724 : BitVec 32 := 0#32
  let v3853 : BitVec 1 := Scalar.cmpi .slt v3851 c0_i32_3724
  let c0_i32_3725 : BitVec 32 := 0#32
  let v3854 : BitVec 1 := Scalar.cmpi .slt v3850 c0_i32_3725
  let v3855 : BitVec 1 := Scalar.xori v3853 v3854
  let c0_i32_3723 : BitVec 32 := 0#32
  let v3852 : BitVec 1 := Scalar.cmpi .ne v3851 c0_i32_3723
  let v3856 : BitVec 1 := Scalar.andi v3855 v3852
  let v3857 : BitVec 32 := Scalar.addi v3851 v3850
  let v3858 : BitVec 32 := Scalar.select v3856 v3857 v3851
  let c1_i32_3730 : BitVec 32 := 1#32
  let v3859 : BitVec 32 := Scalar.muli v3858 c1_i32_3730
  let v3860 : BitVec 32 := Scalar.addi c0_i32_3731 v3859
  v3860.toNat
def k0_dev145 (d0 : Dev nD) : Nat :=
  let c0_i32_3748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3736 : BitVec 32 := 19#32
  let v3869 : BitVec 32 := Scalar.addi v2 c19_i32_3736
  let c32_i32_3737 : BitVec 32 := 32#32
  let c0_i32_3738 : BitVec 32 := 0#32
  let v3870 : BitVec 1 := Scalar.cmpi .eq c32_i32_3737 c0_i32_3738
  let c1_i32_3739 : BitVec 32 := 1#32
  let v3871 : BitVec 32 := Scalar.select v3870 c1_i32_3739 c32_i32_3737
  let v3872 : BitVec 32 := Scalar.remsi v3869 v3871
  let c0_i32_3741 : BitVec 32 := 0#32
  let v3874 : BitVec 1 := Scalar.cmpi .slt v3872 c0_i32_3741
  let c0_i32_3742 : BitVec 32 := 0#32
  let v3875 : BitVec 1 := Scalar.cmpi .slt v3871 c0_i32_3742
  let v3876 : BitVec 1 := Scalar.xori v3874 v3875
  let c0_i32_3740 : BitVec 32 := 0#32
  let v3873 : BitVec 1 := Scalar.cmpi .ne v3872 c0_i32_3740
  let v3877 : BitVec 1 := Scalar.andi v3876 v3873
  let v3878 : BitVec 32 := Scalar.addi v3872 v3871
  let v3879 : BitVec 32 := Scalar.select v3877 v3878 v3872
  let c1_i32_3747 : BitVec 32 := 1#32
  let v3880 : BitVec 32 := Scalar.muli v3879 c1_i32_3747
  let v3881 : BitVec 32 := Scalar.addi c0_i32_3748 v3880
  v3881.toNat
def k0_dev146 (d0 : Dev nD) : Nat :=
  let c0_i32_3765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3753 : BitVec 32 := 20#32
  let v3890 : BitVec 32 := Scalar.addi v2 c20_i32_3753
  let c32_i32_3754 : BitVec 32 := 32#32
  let c0_i32_3755 : BitVec 32 := 0#32
  let v3891 : BitVec 1 := Scalar.cmpi .eq c32_i32_3754 c0_i32_3755
  let c1_i32_3756 : BitVec 32 := 1#32
  let v3892 : BitVec 32 := Scalar.select v3891 c1_i32_3756 c32_i32_3754
  let v3893 : BitVec 32 := Scalar.remsi v3890 v3892
  let c0_i32_3758 : BitVec 32 := 0#32
  let v3895 : BitVec 1 := Scalar.cmpi .slt v3893 c0_i32_3758
  let c0_i32_3759 : BitVec 32 := 0#32
  let v3896 : BitVec 1 := Scalar.cmpi .slt v3892 c0_i32_3759
  let v3897 : BitVec 1 := Scalar.xori v3895 v3896
  let c0_i32_3757 : BitVec 32 := 0#32
  let v3894 : BitVec 1 := Scalar.cmpi .ne v3893 c0_i32_3757
  let v3898 : BitVec 1 := Scalar.andi v3897 v3894
  let v3899 : BitVec 32 := Scalar.addi v3893 v3892
  let v3900 : BitVec 32 := Scalar.select v3898 v3899 v3893
  let c1_i32_3764 : BitVec 32 := 1#32
  let v3901 : BitVec 32 := Scalar.muli v3900 c1_i32_3764
  let v3902 : BitVec 32 := Scalar.addi c0_i32_3765 v3901
  v3902.toNat
def k0_dev147 (d0 : Dev nD) : Nat :=
  let c0_i32_3782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3770 : BitVec 32 := 21#32
  let v3911 : BitVec 32 := Scalar.addi v2 c21_i32_3770
  let c32_i32_3771 : BitVec 32 := 32#32
  let c0_i32_3772 : BitVec 32 := 0#32
  let v3912 : BitVec 1 := Scalar.cmpi .eq c32_i32_3771 c0_i32_3772
  let c1_i32_3773 : BitVec 32 := 1#32
  let v3913 : BitVec 32 := Scalar.select v3912 c1_i32_3773 c32_i32_3771
  let v3914 : BitVec 32 := Scalar.remsi v3911 v3913
  let c0_i32_3775 : BitVec 32 := 0#32
  let v3916 : BitVec 1 := Scalar.cmpi .slt v3914 c0_i32_3775
  let c0_i32_3776 : BitVec 32 := 0#32
  let v3917 : BitVec 1 := Scalar.cmpi .slt v3913 c0_i32_3776
  let v3918 : BitVec 1 := Scalar.xori v3916 v3917
  let c0_i32_3774 : BitVec 32 := 0#32
  let v3915 : BitVec 1 := Scalar.cmpi .ne v3914 c0_i32_3774
  let v3919 : BitVec 1 := Scalar.andi v3918 v3915
  let v3920 : BitVec 32 := Scalar.addi v3914 v3913
  let v3921 : BitVec 32 := Scalar.select v3919 v3920 v3914
  let c1_i32_3781 : BitVec 32 := 1#32
  let v3922 : BitVec 32 := Scalar.muli v3921 c1_i32_3781
  let v3923 : BitVec 32 := Scalar.addi c0_i32_3782 v3922
  v3923.toNat
def k0_dev148 (d0 : Dev nD) : Nat :=
  let c0_i32_3799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3787 : BitVec 32 := 22#32
  let v3932 : BitVec 32 := Scalar.addi v2 c22_i32_3787
  let c32_i32_3788 : BitVec 32 := 32#32
  let c0_i32_3789 : BitVec 32 := 0#32
  let v3933 : BitVec 1 := Scalar.cmpi .eq c32_i32_3788 c0_i32_3789
  let c1_i32_3790 : BitVec 32 := 1#32
  let v3934 : BitVec 32 := Scalar.select v3933 c1_i32_3790 c32_i32_3788
  let v3935 : BitVec 32 := Scalar.remsi v3932 v3934
  let c0_i32_3792 : BitVec 32 := 0#32
  let v3937 : BitVec 1 := Scalar.cmpi .slt v3935 c0_i32_3792
  let c0_i32_3793 : BitVec 32 := 0#32
  let v3938 : BitVec 1 := Scalar.cmpi .slt v3934 c0_i32_3793
  let v3939 : BitVec 1 := Scalar.xori v3937 v3938
  let c0_i32_3791 : BitVec 32 := 0#32
  let v3936 : BitVec 1 := Scalar.cmpi .ne v3935 c0_i32_3791
  let v3940 : BitVec 1 := Scalar.andi v3939 v3936
  let v3941 : BitVec 32 := Scalar.addi v3935 v3934
  let v3942 : BitVec 32 := Scalar.select v3940 v3941 v3935
  let c1_i32_3798 : BitVec 32 := 1#32
  let v3943 : BitVec 32 := Scalar.muli v3942 c1_i32_3798
  let v3944 : BitVec 32 := Scalar.addi c0_i32_3799 v3943
  v3944.toNat
def k0_dev149 (d0 : Dev nD) : Nat :=
  let c0_i32_3816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3804 : BitVec 32 := 23#32
  let v3953 : BitVec 32 := Scalar.addi v2 c23_i32_3804
  let c32_i32_3805 : BitVec 32 := 32#32
  let c0_i32_3806 : BitVec 32 := 0#32
  let v3954 : BitVec 1 := Scalar.cmpi .eq c32_i32_3805 c0_i32_3806
  let c1_i32_3807 : BitVec 32 := 1#32
  let v3955 : BitVec 32 := Scalar.select v3954 c1_i32_3807 c32_i32_3805
  let v3956 : BitVec 32 := Scalar.remsi v3953 v3955
  let c0_i32_3809 : BitVec 32 := 0#32
  let v3958 : BitVec 1 := Scalar.cmpi .slt v3956 c0_i32_3809
  let c0_i32_3810 : BitVec 32 := 0#32
  let v3959 : BitVec 1 := Scalar.cmpi .slt v3955 c0_i32_3810
  let v3960 : BitVec 1 := Scalar.xori v3958 v3959
  let c0_i32_3808 : BitVec 32 := 0#32
  let v3957 : BitVec 1 := Scalar.cmpi .ne v3956 c0_i32_3808
  let v3961 : BitVec 1 := Scalar.andi v3960 v3957
  let v3962 : BitVec 32 := Scalar.addi v3956 v3955
  let v3963 : BitVec 32 := Scalar.select v3961 v3962 v3956
  let c1_i32_3815 : BitVec 32 := 1#32
  let v3964 : BitVec 32 := Scalar.muli v3963 c1_i32_3815
  let v3965 : BitVec 32 := Scalar.addi c0_i32_3816 v3964
  v3965.toNat
def k0_dev150 (d0 : Dev nD) : Nat :=
  let c0_i32_3833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3821 : BitVec 32 := 24#32
  let v3974 : BitVec 32 := Scalar.addi v2 c24_i32_3821
  let c32_i32_3822 : BitVec 32 := 32#32
  let c0_i32_3823 : BitVec 32 := 0#32
  let v3975 : BitVec 1 := Scalar.cmpi .eq c32_i32_3822 c0_i32_3823
  let c1_i32_3824 : BitVec 32 := 1#32
  let v3976 : BitVec 32 := Scalar.select v3975 c1_i32_3824 c32_i32_3822
  let v3977 : BitVec 32 := Scalar.remsi v3974 v3976
  let c0_i32_3826 : BitVec 32 := 0#32
  let v3979 : BitVec 1 := Scalar.cmpi .slt v3977 c0_i32_3826
  let c0_i32_3827 : BitVec 32 := 0#32
  let v3980 : BitVec 1 := Scalar.cmpi .slt v3976 c0_i32_3827
  let v3981 : BitVec 1 := Scalar.xori v3979 v3980
  let c0_i32_3825 : BitVec 32 := 0#32
  let v3978 : BitVec 1 := Scalar.cmpi .ne v3977 c0_i32_3825
  let v3982 : BitVec 1 := Scalar.andi v3981 v3978
  let v3983 : BitVec 32 := Scalar.addi v3977 v3976
  let v3984 : BitVec 32 := Scalar.select v3982 v3983 v3977
  let c1_i32_3832 : BitVec 32 := 1#32
  let v3985 : BitVec 32 := Scalar.muli v3984 c1_i32_3832
  let v3986 : BitVec 32 := Scalar.addi c0_i32_3833 v3985
  v3986.toNat
def k0_dev151 (d0 : Dev nD) : Nat :=
  let c0_i32_3850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3838 : BitVec 32 := 25#32
  let v3995 : BitVec 32 := Scalar.addi v2 c25_i32_3838
  let c32_i32_3839 : BitVec 32 := 32#32
  let c0_i32_3840 : BitVec 32 := 0#32
  let v3996 : BitVec 1 := Scalar.cmpi .eq c32_i32_3839 c0_i32_3840
  let c1_i32_3841 : BitVec 32 := 1#32
  let v3997 : BitVec 32 := Scalar.select v3996 c1_i32_3841 c32_i32_3839
  let v3998 : BitVec 32 := Scalar.remsi v3995 v3997
  let c0_i32_3843 : BitVec 32 := 0#32
  let v4000 : BitVec 1 := Scalar.cmpi .slt v3998 c0_i32_3843
  let c0_i32_3844 : BitVec 32 := 0#32
  let v4001 : BitVec 1 := Scalar.cmpi .slt v3997 c0_i32_3844
  let v4002 : BitVec 1 := Scalar.xori v4000 v4001
  let c0_i32_3842 : BitVec 32 := 0#32
  let v3999 : BitVec 1 := Scalar.cmpi .ne v3998 c0_i32_3842
  let v4003 : BitVec 1 := Scalar.andi v4002 v3999
  let v4004 : BitVec 32 := Scalar.addi v3998 v3997
  let v4005 : BitVec 32 := Scalar.select v4003 v4004 v3998
  let c1_i32_3849 : BitVec 32 := 1#32
  let v4006 : BitVec 32 := Scalar.muli v4005 c1_i32_3849
  let v4007 : BitVec 32 := Scalar.addi c0_i32_3850 v4006
  v4007.toNat
def k0_dev152 (d0 : Dev nD) : Nat :=
  let c0_i32_3867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3855 : BitVec 32 := 26#32
  let v4016 : BitVec 32 := Scalar.addi v2 c26_i32_3855
  let c32_i32_3856 : BitVec 32 := 32#32
  let c0_i32_3857 : BitVec 32 := 0#32
  let v4017 : BitVec 1 := Scalar.cmpi .eq c32_i32_3856 c0_i32_3857
  let c1_i32_3858 : BitVec 32 := 1#32
  let v4018 : BitVec 32 := Scalar.select v4017 c1_i32_3858 c32_i32_3856
  let v4019 : BitVec 32 := Scalar.remsi v4016 v4018
  let c0_i32_3860 : BitVec 32 := 0#32
  let v4021 : BitVec 1 := Scalar.cmpi .slt v4019 c0_i32_3860
  let c0_i32_3861 : BitVec 32 := 0#32
  let v4022 : BitVec 1 := Scalar.cmpi .slt v4018 c0_i32_3861
  let v4023 : BitVec 1 := Scalar.xori v4021 v4022
  let c0_i32_3859 : BitVec 32 := 0#32
  let v4020 : BitVec 1 := Scalar.cmpi .ne v4019 c0_i32_3859
  let v4024 : BitVec 1 := Scalar.andi v4023 v4020
  let v4025 : BitVec 32 := Scalar.addi v4019 v4018
  let v4026 : BitVec 32 := Scalar.select v4024 v4025 v4019
  let c1_i32_3866 : BitVec 32 := 1#32
  let v4027 : BitVec 32 := Scalar.muli v4026 c1_i32_3866
  let v4028 : BitVec 32 := Scalar.addi c0_i32_3867 v4027
  v4028.toNat
def k0_dev153 (d0 : Dev nD) : Nat :=
  let c0_i32_3884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3872 : BitVec 32 := 27#32
  let v4037 : BitVec 32 := Scalar.addi v2 c27_i32_3872
  let c32_i32_3873 : BitVec 32 := 32#32
  let c0_i32_3874 : BitVec 32 := 0#32
  let v4038 : BitVec 1 := Scalar.cmpi .eq c32_i32_3873 c0_i32_3874
  let c1_i32_3875 : BitVec 32 := 1#32
  let v4039 : BitVec 32 := Scalar.select v4038 c1_i32_3875 c32_i32_3873
  let v4040 : BitVec 32 := Scalar.remsi v4037 v4039
  let c0_i32_3877 : BitVec 32 := 0#32
  let v4042 : BitVec 1 := Scalar.cmpi .slt v4040 c0_i32_3877
  let c0_i32_3878 : BitVec 32 := 0#32
  let v4043 : BitVec 1 := Scalar.cmpi .slt v4039 c0_i32_3878
  let v4044 : BitVec 1 := Scalar.xori v4042 v4043
  let c0_i32_3876 : BitVec 32 := 0#32
  let v4041 : BitVec 1 := Scalar.cmpi .ne v4040 c0_i32_3876
  let v4045 : BitVec 1 := Scalar.andi v4044 v4041
  let v4046 : BitVec 32 := Scalar.addi v4040 v4039
  let v4047 : BitVec 32 := Scalar.select v4045 v4046 v4040
  let c1_i32_3883 : BitVec 32 := 1#32
  let v4048 : BitVec 32 := Scalar.muli v4047 c1_i32_3883
  let v4049 : BitVec 32 := Scalar.addi c0_i32_3884 v4048
  v4049.toNat
def k0_dev154 (d0 : Dev nD) : Nat :=
  let c0_i32_3901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3889 : BitVec 32 := 28#32
  let v4058 : BitVec 32 := Scalar.addi v2 c28_i32_3889
  let c32_i32_3890 : BitVec 32 := 32#32
  let c0_i32_3891 : BitVec 32 := 0#32
  let v4059 : BitVec 1 := Scalar.cmpi .eq c32_i32_3890 c0_i32_3891
  let c1_i32_3892 : BitVec 32 := 1#32
  let v4060 : BitVec 32 := Scalar.select v4059 c1_i32_3892 c32_i32_3890
  let v4061 : BitVec 32 := Scalar.remsi v4058 v4060
  let c0_i32_3894 : BitVec 32 := 0#32
  let v4063 : BitVec 1 := Scalar.cmpi .slt v4061 c0_i32_3894
  let c0_i32_3895 : BitVec 32 := 0#32
  let v4064 : BitVec 1 := Scalar.cmpi .slt v4060 c0_i32_3895
  let v4065 : BitVec 1 := Scalar.xori v4063 v4064
  let c0_i32_3893 : BitVec 32 := 0#32
  let v4062 : BitVec 1 := Scalar.cmpi .ne v4061 c0_i32_3893
  let v4066 : BitVec 1 := Scalar.andi v4065 v4062
  let v4067 : BitVec 32 := Scalar.addi v4061 v4060
  let v4068 : BitVec 32 := Scalar.select v4066 v4067 v4061
  let c1_i32_3900 : BitVec 32 := 1#32
  let v4069 : BitVec 32 := Scalar.muli v4068 c1_i32_3900
  let v4070 : BitVec 32 := Scalar.addi c0_i32_3901 v4069
  v4070.toNat
def k0_dev155 (d0 : Dev nD) : Nat :=
  let c0_i32_3918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3906 : BitVec 32 := 29#32
  let v4079 : BitVec 32 := Scalar.addi v2 c29_i32_3906
  let c32_i32_3907 : BitVec 32 := 32#32
  let c0_i32_3908 : BitVec 32 := 0#32
  let v4080 : BitVec 1 := Scalar.cmpi .eq c32_i32_3907 c0_i32_3908
  let c1_i32_3909 : BitVec 32 := 1#32
  let v4081 : BitVec 32 := Scalar.select v4080 c1_i32_3909 c32_i32_3907
  let v4082 : BitVec 32 := Scalar.remsi v4079 v4081
  let c0_i32_3911 : BitVec 32 := 0#32
  let v4084 : BitVec 1 := Scalar.cmpi .slt v4082 c0_i32_3911
  let c0_i32_3912 : BitVec 32 := 0#32
  let v4085 : BitVec 1 := Scalar.cmpi .slt v4081 c0_i32_3912
  let v4086 : BitVec 1 := Scalar.xori v4084 v4085
  let c0_i32_3910 : BitVec 32 := 0#32
  let v4083 : BitVec 1 := Scalar.cmpi .ne v4082 c0_i32_3910
  let v4087 : BitVec 1 := Scalar.andi v4086 v4083
  let v4088 : BitVec 32 := Scalar.addi v4082 v4081
  let v4089 : BitVec 32 := Scalar.select v4087 v4088 v4082
  let c1_i32_3917 : BitVec 32 := 1#32
  let v4090 : BitVec 32 := Scalar.muli v4089 c1_i32_3917
  let v4091 : BitVec 32 := Scalar.addi c0_i32_3918 v4090
  v4091.toNat
def k0_dev156 (d0 : Dev nD) : Nat :=
  let c0_i32_3935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3923 : BitVec 32 := 30#32
  let v4100 : BitVec 32 := Scalar.addi v2 c30_i32_3923
  let c32_i32_3924 : BitVec 32 := 32#32
  let c0_i32_3925 : BitVec 32 := 0#32
  let v4101 : BitVec 1 := Scalar.cmpi .eq c32_i32_3924 c0_i32_3925
  let c1_i32_3926 : BitVec 32 := 1#32
  let v4102 : BitVec 32 := Scalar.select v4101 c1_i32_3926 c32_i32_3924
  let v4103 : BitVec 32 := Scalar.remsi v4100 v4102
  let c0_i32_3928 : BitVec 32 := 0#32
  let v4105 : BitVec 1 := Scalar.cmpi .slt v4103 c0_i32_3928
  let c0_i32_3929 : BitVec 32 := 0#32
  let v4106 : BitVec 1 := Scalar.cmpi .slt v4102 c0_i32_3929
  let v4107 : BitVec 1 := Scalar.xori v4105 v4106
  let c0_i32_3927 : BitVec 32 := 0#32
  let v4104 : BitVec 1 := Scalar.cmpi .ne v4103 c0_i32_3927
  let v4108 : BitVec 1 := Scalar.andi v4107 v4104
  let v4109 : BitVec 32 := Scalar.addi v4103 v4102
  let v4110 : BitVec 32 := Scalar.select v4108 v4109 v4103
  let c1_i32_3934 : BitVec 32 := 1#32
  let v4111 : BitVec 32 := Scalar.muli v4110 c1_i32_3934
  let v4112 : BitVec 32 := Scalar.addi c0_i32_3935 v4111
  v4112.toNat
def k0_dev157 (d0 : Dev nD) : Nat :=
  let c0_i32_3952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3940 : BitVec 32 := 31#32
  let v4121 : BitVec 32 := Scalar.addi v2 c31_i32_3940
  let c32_i32_3941 : BitVec 32 := 32#32
  let c0_i32_3942 : BitVec 32 := 0#32
  let v4122 : BitVec 1 := Scalar.cmpi .eq c32_i32_3941 c0_i32_3942
  let c1_i32_3943 : BitVec 32 := 1#32
  let v4123 : BitVec 32 := Scalar.select v4122 c1_i32_3943 c32_i32_3941
  let v4124 : BitVec 32 := Scalar.remsi v4121 v4123
  let c0_i32_3945 : BitVec 32 := 0#32
  let v4126 : BitVec 1 := Scalar.cmpi .slt v4124 c0_i32_3945
  let c0_i32_3946 : BitVec 32 := 0#32
  let v4127 : BitVec 1 := Scalar.cmpi .slt v4123 c0_i32_3946
  let v4128 : BitVec 1 := Scalar.xori v4126 v4127
  let c0_i32_3944 : BitVec 32 := 0#32
  let v4125 : BitVec 1 := Scalar.cmpi .ne v4124 c0_i32_3944
  let v4129 : BitVec 1 := Scalar.andi v4128 v4125
  let v4130 : BitVec 32 := Scalar.addi v4124 v4123
  let v4131 : BitVec 32 := Scalar.select v4129 v4130 v4124
  let c1_i32_3951 : BitVec 32 := 1#32
  let v4132 : BitVec 32 := Scalar.muli v4131 c1_i32_3951
  let v4133 : BitVec 32 := Scalar.addi c0_i32_3952 v4132
  v4133.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Ideal.Prog.lean ====
/- The kernel's body, read as what it is: a barrier, thirty-two steps round the ring in both
   directions, a drain, and the exchange of the absolute maxima. Each phase is one definition over
   the step's number, each names the program that follows it as its last argument, and
   `body_eq` says that the printed body is their composition. -/
module

public import proofs.«01_k».proof.Proof.Gen.KernelIdeal
public import Idealize.ShloMosaic.Lib.Pipeline.Regions

@[expose] public section

noncomputable section

namespace Cert.KernelIdeal.Ring

open Idealize.ShloMosaic Idealize.SL.Sem Cert.KernelIdeal.Gen

variable {F : FTy → Type} [FloatOps F]

/-- The programs the kernel is made of. -/
abbrev PR (F : FTy → Type) := Prog (TpuEff nD τ sig (Elt F) Λ₀ .tc) PUnit

/-- The devices before and after this one on the ring. -/
def prv (c : Dev nD) : Dev nD := ⟨k0_dev1 c, k0_dev1_lt c⟩
def nxt (c : Dev nD) : Dev nD := ⟨k0_dev2 c, k0_dev2_lt c⟩

/-- The device `w` places further on, as the kernel's words compute it. -/
def fwdNat (w : BitVec 32) (c : Dev nD) : Nat :=
  let p := Scalar.remsi (Scalar.divsi (Dev.word c) 1#32) 32#32
  let n := Scalar.select (Scalar.cmpi .eq 32#32 0#32) 1#32 32#32
  let q := Scalar.remsi (Scalar.addi p w) n
  let b := Scalar.andi (Scalar.xori (Scalar.cmpi .slt q 0#32) (Scalar.cmpi .slt n 0#32)) (Scalar.cmpi .ne q 0#32)
  (Scalar.addi 0#32 (Scalar.muli (Scalar.select b (Scalar.addi q n) q) 1#32)).toNat

theorem fwdNat_lt : ∀ (i : Fin 31) (c : Dev nD), fwdNat (BitVec.ofNat 32 (i.val + 1)) c < nD := by decide +kernel

/-- The device that the `i`-th maximum goes to. -/
def fwd (i : Fin 31) (c : Dev nD) : Dev nD := ⟨fwdNat (BitVec.ofNat 32 (i.val + 1)) c, fwdNat_lt i c⟩

theorem slot_inb (k : Fin 2) : ∀ a, (![k.val, 0, 0] : Fin 3 → Nat) a + S1x128x4096.size a ≤ S2x128x4096.size a := by
  revert k; decide
theorem sem_inb (k : Fin 2) : ∀ a, (![k.val] : Fin 1 → Nat) a + S1.size a ≤ S2.size a := by
  revert k; decide
theorem row_inb (i : Fin 32) : ∀ a, (![i.val, 0, 0] : Fin 3 → Nat) a + S1x8x128.size a ≤ S32x8x128.size a := by
  revert i; decide
theorem rowSem_inb (i : Fin 31) : ∀ a, (![i.val] : Fin 1 → Nat) a + S1.size a ≤ S31.size a := by
  revert i; decide

/-- Slot `k` of a double buffer, as a rectangle and as the memref a transfer names. -/
abbrev slotR (k : Fin 2) : Rect S2x128x4096 := Rect.unit (s := S2x128x4096) ![k.val, 0, 0] S1x128x4096.size (slot_inb k)
abbrev slot (M : Memref sig .tc .vmem S2x128x4096 .f32) (k : Fin 2) : Memref sig .tc .vmem S128x4096 .f32 :=
  (M.slice (slotR k) (fun _ => rfl)).squeeze S128x4096 squeezes_S1x128x4096_S128x4096
/-- Row block `i` of the maxima's buffer likewise. -/
abbrev rowR (i : Fin 32) : Rect S32x8x128 := Rect.unit (s := S32x8x128) ![i.val, 0, 0] S1x8x128.size (row_inb i)
abbrev row (M : Memref sig .tc .vmem S32x8x128 .f32) (i : Fin 32) : Memref sig .tc .vmem S8x128 .f32 :=
  (M.slice (rowR i) (fun _ => rfl)).squeeze S8x128 squeezes_S1x8x128_S8x128
/-- The `k`-th semaphore of a pair, and the `i`-th of the maxima's. -/
abbrev dsem (A : DmaSems sig S2) (k : Fin 2) : DmaSem sig :=
  ((A.slice (Rect.unit (s := S2) ![k.val] S1.size (sem_inb k))).squeeze S_ squeezes_S1_S_).sem
abbrev rsem (A : Sems sig S2) (k : Fin 2) : Sem sig :=
  ((A.slice (Rect.unit (s := S2) ![k.val] S1.size (sem_inb k))).squeeze S_ squeezes_S1_S_).sem
abbrev msem (A : DmaSems sig S31) (i : Fin 31) : DmaSem sig :=
  ((A.slice (Rect.unit (s := S31) ![i.val] S1.size (rowSem_inb i))).squeeze S_ squeezes_S1_S_).sem

/-- One direction round the ring: its two double buffers and its semaphores. -/
structure Lane where
  sb : Memref sig .tc .vmem S2x128x4096 .f32
  rb : Memref sig .tc .vmem S2x128x4096 .f32
  sS : DmaSems sig S2
  rS : DmaSems sig S2
  cS : Sems sig S2

/-- The barrier's semaphore. -/
abbrev barS : Sem sig := (SemArray.scalar (sig.barrier 0 rfl) : Sems sig S_).sem

/-- The rectangles of the operands' blocks: the rows of `x` for a step's word, forward and backward, and the
    two halves of the columns. -/
theorem offA_inb (c : Dev nD) (s : ℕ) (h : s < 32) : ∀ a, k0_off1 c (BitVec.ofNat 32 s) a + S128x128.size a ≤ S4096x128.size a :=
  k0_off1_inb c ⟨s, h⟩
theorem offB_inb (c : Dev nD) (s : ℕ) (h : s < 32) : ∀ a, k0_off2 c (BitVec.ofNat 32 s) a + S128x128.size a ≤ S4096x128.size a :=
  k0_off2_inb c ⟨s, h⟩
abbrev rectA (c : Dev nD) (s : ℕ) (h : s < 32) : Rect S4096x128 := Rect.unit (s := S4096x128) (k0_off1 c (BitVec.ofNat 32 s)) S128x128.size (offA_inb c s h)
abbrev rectB (c : Dev nD) (s : ℕ) (h : s < 32) : Rect S4096x128 := Rect.unit (s := S4096x128) (k0_off2 c (BitVec.ofNat 32 s)) S128x128.size (offB_inb c s h)
theorem col_inb (e : Bool) : ∀ a, (![0, bif e then 4096 else 0] : Fin 2 → Nat) a + S128x4096.size a ≤ S128x8192.size a := by
  revert e; decide
/-- The left half of the columns, and the right half. -/
abbrev colR (e : Bool) : Rect S128x8192 := Rect.unit (s := S128x8192) ![0, bif e then 4096 else 0] S128x4096.size (col_inb e)
theorem all_inb : ∀ a, (![0, 0] : Fin 2 → Nat) a + S128x8192.size a ≤ S128x8192.size a := by decide
abbrev allR : Rect S128x8192 := Rect.unit (s := S128x8192) ![0, 0] S128x8192.size all_inb
theorem rows_inb : ∀ a, (![0, 0, 0] : Fin 3 → Nat) a + S32x8x128.size a ≤ S32x8x128.size a := by decide
abbrev rowsR : Rect S32x8x128 := Rect.unit (s := S32x8x128) ![0, 0, 0] S32x8x128.size rows_inb

/-! ## The values -/

/-- One block product. -/
def part (x : Vec F S128x128 .f32) (w : Vec F S128x4096 .f32) : FVec F S128x4096 .f32 :=
  matmul dot_S128x128_S128x4096_S128x4096_1_0_0_1_n_n (some .fp32) (shapeCast S128x128 x shapeCasts_S128x128_S128x128)
    (shapeCast S128x4096 w shapeCasts_S128x4096_S128x4096) (constant S128x4096 .f32 0x00000000#32)
/-- What a slot is filled with, and what is read of one. -/
def enc (p : FVec F S128x4096 .f32) : FVec F S1x128x4096 .f32 := shapeCast S1x128x4096 p shapeCasts_S128x4096_S1x128x4096
def dec (r : Vec F S1x128x4096 .f32) : FVec F S128x4096 .f32 := shapeCast S128x4096 r shapeCasts_S1x128x4096_S128x4096
/-- The running sum after one more block product. -/
def acc (p : FVec F S128x4096 .f32) (r : Vec F S1x128x4096 .f32) : FVec F S128x4096 .f32 := addf p (dec r)
/-- The largest absolute value of a device's rows, and that value spread over a row block. -/
def amaxS (o : Vec F S128x8192 .f32) : F .f32 :=
  extractAt ![0, 0, 0] (shapeCast S1x1x1 (multiReduction .maximumf [1, 2] S1
    (shapeCast S1x128x8192 (absf (shapeCast S128x8192 o shapeCasts_S128x8192_S128x8192)) shapeCasts_S128x8192_S1x128x8192) 0xFF800000#32
    reduces_S1x128x8192_S1 (.inl rfl) rfl) shapeCasts_S1_S1x1x1) inpos_S1x1x1_p0_0_0
def amaxOf (o : Vec F S128x8192 .f32) : FVec F S1x8x128 .f32 :=
  shapeCast S1x8x128 (broadcast S8x128 (amaxS o)) shapeCasts_S8x128_S1x8x128
/-- The scale that all the devices' maxima give. -/
def scaleOf (m : Vec F S32x8x128 .f32) : F .f32 :=
  Scalar.divf (extractAt ![0, 0, 0, 0] (shapeCast S1x1x1x1 (multiReduction .maximumf [1, 2, 3] S1
    (shapeCast S1x32x8x128 m shapeCasts_S32x8x128_S1x32x8x128) 0xFF800000#32 reduces_S1x32x8x128_S1 (.inl rfl) rfl)
    shapeCasts_S1_S1x1x1x1) inpos_S1x1x1x1_p0_0_0_0) (Scalar.ofBits .f32 0x43E00000#32)
/-- A device's rows quantised to eight bits at the scale and restored. -/
def quant (m : Vec F S32x8x128 .f32) (o : Vec F S128x8192 .f32) : FVec F S128x8192 .f32 :=
  mulf (extf .f32 (truncf .fp8e4m3 (divf (shapeCast S128x8192 o shapeCasts_S128x8192_S128x8192) (broadcast S128x8192 (scaleOf m)))
    bitsLt_fp8e4m3_f32) bitsLt_fp8e4m3_f32) (broadcast S128x8192 (scaleOf m))

/-! ## The phases -/

/-- A program run only under a condition. -/
def onlyIf (b : Bool) (f : PR F → PR F) (K : PR F) : PR F := cond b (f K) K

/-- Wait for a slot's transfer at semaphore `s`; `a` and `b` are the two slots it joins. -/
def waitSlot (s : DmaSem sig) (A : Memref sig .tc .vmem S2x128x4096 .f32) (B : Memref sig .tc .vmem S2x128x4096 .f32) (k : Fin 2) (K : PR F) : PR F :=
  .op (.waitDma2 s (slot A k) (slot B k) ((View.wordExact_bits rfl).reshape _ _) ((View.wordExact_bits rfl).reshape _ _)) fun _ => K

/-- Fill slot `k` with `p` (the printed store first reads the slot and drops what it read). -/
def fill (L : Lane) (k : Fin 2) (p : FVec F S128x4096 .f32) (K : PR F) : PR F :=
  .op (.load L.sb (slotR k).toLoadRect (View.loadsAt_vmem h_S1x128x4096)) fun _ =>
  .op (.store L.sb (slotR k) (enc p) Finset.univ (View.stores_vmem_bits_univ h_S1x128x4096 rfl) (.inl rfl)) fun _ => K

/-- Send slot `k` to the neighbour `d`. -/
def send (L : Lane) (k : Fin 2) (d : Dev nD) (K : PR F) : PR F :=
  .op (.enqueueDma (slot L.sb k) (.remote (Dev.tc d) (slot L.rb k) (.dma (dsem L.sS k))) (.dma (dsem L.rS k))
    ((View.wordExact_bits rfl).reshape _ _) ((View.wordExact_bits rfl).reshape _ _) ⟨⟨rfl, Or.inl rfl⟩, trivial⟩) fun _ => K

/-- Signal a neighbour's semaphore; wait for one's own. -/
def sig1 (s : Sem sig) (d : Dev nD) (K : PR F) : PR F := .op (.semSignal (Dev.tc d) s (1#32).toInt) fun _ => K
def wait1 (s : Sem sig) (n : BitVec 32) (K : PR F) : PR F := .op (.semWait s n.toInt) fun _ => K

/-- The four loads of a step, and the two block products they give. -/
def loads (x : Memref sig .tc .vmem S4096x128 .f32) (w : Memref sig .tc .vmem S128x8192 .f32) (c : Dev nD) (s : ℕ) (h : s < 32)
    (K : FVec F S128x4096 .f32 → FVec F S128x4096 .f32 → PR F) : PR F :=
  .op (.load x (rectA c s h).toLoadRect (View.loadsAt_vmem h_S128x128)) fun xa =>
  .op (.load w (colR false).toLoadRect (View.loadsAt_vmem h_S128x4096)) fun wa =>
  .op (.load x (rectB c s h).toLoadRect (View.loadsAt_vmem h_S128x128)) fun xb =>
  .op (.load w (colR true).toLoadRect (View.loadsAt_vmem h_S128x4096)) fun wb =>
  K (part xa wa) (part xb wb)

/-- Take the slot that has come from the neighbour `src` at step `s` and give that neighbour its credit back. -/
def take (L : Lane) (src : Dev nD) (k : Fin 2) (K : Vec F S1x128x4096 .f32 → PR F) : PR F :=
  waitSlot (dsem L.rS k) L.sb L.rb k <|
  .op (.load L.rb (slotR k).toLoadRect (View.loadsAt_vmem h_S1x128x4096)) fun r =>
  sig1 (rsem L.cS k) src (K r)

/-- Slot numbers of step `s`: the one it fills, and the one it takes. -/
abbrev par (s : ℕ) : Fin 2 := ⟨s % 2, Nat.mod_lt _ (by decide)⟩

/-- One direction of a step that is neither the first nor the last: `s` is its number less one. -/
def half (L : Lane) (src dst : Dev nD) (s : ℕ) (p : FVec F S128x4096 .f32) (K : PR F) : PR F :=
  take L src (par s) fun r =>
  onlyIf (Nat.ble 1 s) (waitSlot (dsem L.sS (par (s + 1))) L.rb L.sb (par (s + 1))) <|
  fill L (par (s + 1)) (acc p r) <|
  onlyIf (Nat.ble 1 s) (wait1 (rsem L.cS (par (s + 1))) 1#32) <|
  send L (par (s + 1)) dst K

/-- The last step's direction: the sum is complete and goes into the result's columns. -/
def last (o : Memref sig .tc .vmem S128x8192 .f32) (e : Bool) (L : Lane) (src : Dev nD) (p : FVec F S128x4096 .f32) (K : PR F) : PR F :=
  take L src 0 fun r =>
  .op (.load o (colR e).toLoadRect (View.loadsAt_vmem h_S128x4096)) fun _ =>
  .op (.store o (colR e) (acc p r) Finset.univ (View.stores_vmem_bits_univ h_S128x4096 rfl) (.inl rfl)) fun _ => K

/-- The buffers and semaphores the body is called with. -/
structure Args where
  x : Memref sig .tc .vmem S4096x128 .f32
  w : Memref sig .tc .vmem S128x8192 .f32
  o : Memref sig .tc .vmem S128x8192 .f32
  cw : Lane
  ccw : Lane
  m : Memref sig .tc .vmem S32x8x128 .f32
  mS : DmaSems sig S31
  mR : DmaSems sig S31

/-- The steps after the first and before the last, from the one whose number less one is `s`. -/
def mids (A : Args) (c : Dev nD) : (n s : ℕ) → s + n = 30 → PR F → PR F
  | 0, _, _, K => K
  | n + 1, s, h, K =>
    loads A.x A.w c (s + 1) (by omega) fun p q =>
    half A.cw (prv c) (nxt c) s p <| half A.ccw (nxt c) (prv c) s q <| mids A c n (s + 1) (by omega) K

/-- The first step. -/
def first (A : Args) (c : Dev nD) (K : PR F) : PR F :=
  loads A.x A.w c 0 (by decide) fun p q =>
  fill A.cw 0 p <| send A.cw 0 (nxt c) <| fill A.ccw 0 q <| send A.ccw 0 (prv c) K

/-- The last step. -/
def final (A : Args) (c : Dev nD) (K : PR F) : PR F :=
  loads A.x A.w c 31 (by decide) fun p q =>
  last A.o false A.cw (prv c) p <| last A.o true A.ccw (nxt c) q K

/-- Every transfer of the device's own is waited for, and every credit. -/
def drain (A : Args) (K : PR F) : PR F :=
  waitSlot (dsem A.cw.sS 0) A.cw.rb A.cw.sb 0 <| waitSlot (dsem A.cw.sS 1) A.cw.rb A.cw.sb 1 <|
  waitSlot (dsem A.ccw.sS 0) A.ccw.rb A.ccw.sb 0 <| waitSlot (dsem A.ccw.sS 1) A.ccw.rb A.ccw.sb 1 <|
  wait1 (rsem A.cw.cS 0) 1#32 <| wait1 (rsem A.cw.cS 1) 1#32 <|
  wait1 (rsem A.ccw.cS 0) 1#32 <| wait1 (rsem A.ccw.cS 1) 1#32 K

/-- The row block of maximum `i`. -/
abbrev rw31 (i : ℕ) (h : i < 31) : Fin 32 := ⟨i, by omega⟩

/-- The device's maximum goes to each of the others. -/
def mSends (A : Args) (c : Dev nD) : (n i : ℕ) → i + n = 31 → PR F → PR F
  | 0, _, _, K => K
  | n + 1, i, h, K =>
    .op (.enqueueDma (row A.m 31) (.remote (Dev.tc (fwd ⟨i, by omega⟩ c)) (row A.m (rw31 i (by omega))) (.dma (msem A.mS ⟨i, by omega⟩)))
      (.dma (msem A.mR ⟨i, by omega⟩)) ((View.wordExact_bits rfl).reshape _ _) ((View.wordExact_bits rfl).reshape _ _) ⟨⟨rfl, Or.inl rfl⟩, trivial⟩) fun _ =>
    mSends A c n (i + 1) (by omega) K

/-- Wait for what the device sent, and for what the others sent it. -/
def mDone (A : Args) : (n i : ℕ) → i + n = 31 → PR F → PR F
  | 0, _, _, K => K
  | n + 1, i, h, K =>
    .op (.waitDma2 (msem A.mS ⟨i, by omega⟩) (row A.m (rw31 i (by omega))) (row A.m 31)
      ((View.wordExact_bits rfl).reshape _ _) ((View.wordExact_bits rfl).reshape _ _)) fun _ =>
    mDone A n (i + 1) (by omega) K
def mTakes (A : Args) : (n i : ℕ) → i + n = 31 → PR F → PR F
  | 0, _, _, K => K
  | n + 1, i, h, K =>
    .op (.waitDma2 (msem A.mR ⟨i, by omega⟩) (row A.m 31) (row A.m (rw31 i (by omega)))
      ((View.wordExact_bits rfl).reshape _ _) ((View.wordExact_bits rfl).reshape _ _)) fun _ =>
    mTakes A n (i + 1) (by omega) K

/-- The device's own maximum, into the buffer's last row block. -/
def mFill (A : Args) (K : PR F) : PR F :=
  .op (.load A.o allR.toLoadRect (View.loadsAt_vmem h_S128x8192)) fun o =>
  .op (.load A.m (rowR 31).toLoadRect (View.loadsAt_vmem h_S1x8x128)) fun _ =>
  .op (.store A.m (rowR 31) (amaxOf o) Finset.univ (View.stores_vmem_bits_univ h_S1x8x128 rfl) (.inl rfl)) fun _ => K

/-- The result. -/
def result (A : Args) : PR F :=
  .op (.load A.m rowsR.toLoadRect (View.loadsAt_vmem h_S32x8x128)) fun m =>
  .op (.load A.o allR.toLoadRect (View.loadsAt_vmem h_S128x8192)) fun o =>
  .op (.load A.o allR.toLoadRect (View.loadsAt_vmem h_S128x8192)) fun _ =>
  .op (.store A.o allR (quant m o) Finset.univ (View.stores_vmem_bits_univ h_S128x8192 rfl) (.inl rfl)) fun _ => .ret ⟨⟩

/-- The whole body. -/
def body (A : Args) : PR F :=
  .op .deviceId fun c =>
  sig1 barS (prv c) <| sig1 barS (nxt c) <| wait1 barS 2#32 <|
  first A c <| mids A c 30 0 rfl <| final A c <| drain A <|
  mFill A <| mSends A c 31 0 rfl <| mDone A 31 0 rfl <| mTakes A 31 0 rfl <| result A

set_option maxRecDepth 65536 in
theorem body_eq (arg0 : Memref sig .tc .vmem S4096x128 .f32) (harg0 : arg0.IsWhole) (arg1 : Memref sig .tc .vmem S128x8192 .f32) (harg1 : arg1.IsWhole)
    (arg2 : Memref sig .tc .vmem S128x8192 .f32) (harg2 : arg2.IsWhole) (arg3 : Memref sig .tc .vmem S2x128x4096 .f32) (harg3 : arg3.IsWhole)
    (arg4 : Memref sig .tc .vmem S2x128x4096 .f32) (harg4 : arg4.IsWhole) (arg5 : Memref sig .tc .vmem S2x128x4096 .f32) (harg5 : arg5.IsWhole)
    (arg6 : Memref sig .tc .vmem S2x128x4096 .f32) (harg6 : arg6.IsWhole) (arg7 arg8 arg9 arg10 : DmaSems sig S2) (arg11 arg12 : Sems sig S2)
    (arg13 : Memref sig .tc .vmem S32x8x128 .f32) (harg13 : arg13.IsWhole) (arg14 arg15 : DmaSems sig S31) :
    cc0_body (F := F) arg0 harg0 arg1 harg1 arg2 harg2 arg3 harg3 arg4 harg4 arg5 harg5 arg6 harg6 arg7 arg8 arg9 arg10 arg11 arg12 arg13 harg13 arg14 arg15
      = body ⟨arg0, arg1, arg2, ⟨arg3, arg4, arg7, arg8, arg11⟩, ⟨arg5, arg6, arg9, arg10, arg12⟩, arg13, arg14, arg15⟩ := by
  chain_rfl

end Cert.KernelIdeal.Ring

end
-- ==== Proof.Ideal.Cells.lean ====
/- The devices round the ring, the two directions, and the semaphore cells of the protocol: per device the
   barrier's cell, for each direction and slot a sending, a receiving and a credit cell, and for each maximum
   a sending and a receiving cell. -/
module

public import proofs.«01_k».proof.Proof.Ideal.Prog
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Devices -/

/-- The device that direction `d` comes from and the one it goes to: `false` is the way round to the next
    device, `true` the way back. -/
def src : Bool → Dev nD → Dev nD | false => prv | true => nxt
def dst : Bool → Dev nD → Dev nD | false => nxt | true => prv

theorem prv_val : ∀ c : Dev nD, (prv c).val = (c.val + 31) % 32 := by decide +kernel
theorem nxt_val : ∀ c : Dev nD, (nxt c).val = (c.val + 1) % 32 := by decide +kernel
theorem fwd_val : ∀ (i : Fin 31) (c : Dev nD), (fwd i c).val = (c.val + (i.val + 1)) % 32 := by decide +kernel
theorem prv_nxt (c : Dev nD) : prv (nxt c) = c := by
  apply Fin.ext; rw [prv_val, nxt_val]; have := c.isLt; have : nD = 32 := rfl; omega
theorem nxt_prv (c : Dev nD) : nxt (prv c) = c := by
  apply Fin.ext; rw [nxt_val, prv_val]; have := c.isLt; have : nD = 32 := rfl; omega
theorem src_dst : ∀ (d : Bool) (c : Dev nD), src d (dst d c) = c | false, c => prv_nxt c | true, c => nxt_prv c
theorem dst_src : ∀ (d : Bool) (c : Dev nD), dst d (src d c) = c | false, c => nxt_prv c | true, c => prv_nxt c
/-- The device `i + 1` places back. -/
def bwd (i : Fin 31) (c : Dev nD) : Dev nD := ⟨(c.val + (31 - i.val)) % 32, Nat.mod_lt _ (by decide)⟩
theorem bwd_fwd (i : Fin 31) (c : Dev nD) : bwd i (fwd i c) = c := by
  apply Fin.ext; show ((fwd i c).val + (31 - i.val)) % 32 = _; rw [fwd_val]; have := c.isLt; have : nD = 32 := rfl; omega
theorem fwd_bwd (i : Fin 31) (c : Dev nD) : fwd i (bwd i c) = c := by
  apply Fin.ext; rw [fwd_val]; show ((c.val + (31 - i.val)) % 32 + (i.val + 1)) % 32 = _
  have := c.isLt; have : nD = 32 := rfl; omega
/-- The device whose maxima's rows come with message `n` of the way round: the one `n + 1` places back. -/
def org (c : Dev nD) (n : ℕ) : Dev nD := ⟨(c.val + 31 * (n + 1)) % 32, Nat.mod_lt _ (by decide)⟩
theorem org_nxt (c : Dev nD) (n : ℕ) : org (nxt c) (n + 1) = org c n := by
  apply Fin.ext; show ((nxt c).val + 31 * (n + 1 + 1)) % 32 = (c.val + 31 * (n + 1)) % 32
  rw [nxt_val]; omega
theorem org_nxt_zero (c : Dev nD) : org (nxt c) 0 = c := by
  apply Fin.ext; show ((nxt c).val + 31 * (0 + 1)) % 32 = c.val
  rw [nxt_val]; have := c.isLt; have : nD = 32 := rfl; omega
theorem org_fwd (c : Dev nD) (n : ℕ) (h : n < 31) : org c n = fwd ⟨30 - n, by omega⟩ c := by
  apply Fin.ext; rw [fwd_val]; show (c.val + 31 * (n + 1)) % 32 = (c.val + (30 - n + 1)) % 32
  have := c.isLt; have : nD = 32 := rfl; omega

/-- A direction as a permutation of the devices, and a maximum's destination as one. -/
def dstE (d : Bool) : Dev nD ≃ Dev nD := ⟨dst d, src d, src_dst d, dst_src d⟩
def srcE (d : Bool) : Dev nD ≃ Dev nD := ⟨src d, dst d, dst_src d, src_dst d⟩
def fwdE (i : Fin 31) : Dev nD ≃ Dev nD := ⟨fwd i, bwd i, bwd_fwd i, fwd_bwd i⟩

/-! ## Buffers -/

abbrev xM : Memref sig .tc .vmem S4096x128 .f32 := Memref.whole cc0_stg0_0
abbrev wM : Memref sig .tc .vmem S128x8192 .f32 := Memref.whole cc0_stg1_0
abbrev oM : Memref sig .tc .vmem S128x8192 .f32 := Memref.whole cc0_stg2_0
abbrev mM : Memref sig .tc .vmem S32x8x128 .f32 := Memref.whole cc0_scratch10
/-- The lanes of the two directions. -/
abbrev lane0 : Lane := ⟨Memref.whole cc0_scratch0, Memref.whole cc0_scratch1, cc0_scratch4, cc0_scratch5, cc0_scratch8⟩
abbrev lane1 : Lane := ⟨Memref.whole cc0_scratch2, Memref.whole cc0_scratch3, cc0_scratch6, cc0_scratch7, cc0_scratch9⟩
def lane : Bool → Lane | false => lane0 | true => lane1
abbrev mSs : DmaSems sig S31 := cc0_scratch11
abbrev mRs : DmaSems sig S31 := cc0_scratch12
/-- The body's arguments. -/
abbrev args : Args := ⟨xM, wM, oM, lane false, lane true, mM, mSs, mRs⟩

/-! ## Cells -/

/-- The kernel's own semaphores: for a direction and a slot the sending (0), the receiving (1) and the credit's
    (2); for a maximum the sending (`false`) and the receiving (`true`). -/
abbrev Ok : Type := (Fin 3 × Bool × Fin 2) ⊕ (Bool × Fin 31)
/-- All of the protocol's, the barrier's too. -/
abbrev Kd : Type := Option Ok

instance kdDec : DecidableEq Kd := inferInstance
instance kdFin : Fintype Kd := inferInstance
instance devKdDec : DecidableEq (Dev nD × Kd) := instDecidableEqProd

def osem : Ok → SemLoc sig
  | .inl (0, d, k) => .dma (dsem (lane d).sS k)
  | .inl (1, d, k) => .dma (dsem (lane d).rS k)
  | .inl (2, d, k) => .reg (rsem (lane d).cS k)
  | .inr (false, i) => .dma (msem mSs i)
  | .inr (true, i) => .dma (msem mRs i)
def csem : Kd → SemLoc sig
  | none => .reg barS
  | some k => osem k

theorem csem_inj : Function.Injective csem := by
  intro a b; revert a b; decide +kernel

abbrev cell (c : Dev nD) (k : Kd) : GSem nD τ sig := ((c : Thread nD τ), csem k)
abbrev kcell (ck : Dev nD × Kd) : GSem nD τ sig := cell ck.1 ck.2
theorem kcell_inj : Function.Injective kcell := by
  rintro ⟨c, k⟩ ⟨c', k'⟩ h
  have h1 : c = c' := by have := congrArg (fun g : GSem nD τ sig => g.1.1) h; exact this
  have h2 : k = k' := csem_inj (congrArg (fun g : GSem nD τ sig => g.2) h)
  rw [h1, h2]

open Classical in
/-- Which of the protocol's semaphores a semaphore is. -/
def kindOf (s : SemLoc sig) : Option Kd := if h : ∃ k, csem k = s then some h.choose else none
theorem kindOf_csem (k : Kd) : kindOf (csem k) = some k := by
  unfold kindOf
  have h : ∃ k', csem k' = csem k := ⟨k, rfl⟩
  rw [dif_pos h, csem_inj h.choose_spec]

abbrev barK : Kd := none
abbrev sK (d : Bool) (n : ℕ) : Kd := some (.inl (0, d, par n))
abbrev rK (d : Bool) (n : ℕ) : Kd := some (.inl (1, d, par n))
abbrev cK (d : Bool) (n : ℕ) : Kd := some (.inl (2, d, par n))
abbrev msK (i : Fin 31) : Kd := some (.inr (false, i))
abbrev mrK (i : Fin 31) : Kd := some (.inr (true, i))

theorem par_add_two (n : ℕ) : par (n + 2) = par n := Fin.ext (Nat.add_mod_right n 2)

/-- The credit of a slot's transfer and of a row block's. -/
@[irreducible] def NS : ℕ := (slot (lane false).rb 0).view.dmaCredit
@[irreducible] def NM : ℕ := (row mM 31).view.dmaCredit
theorem NS_eq : (slot (lane false).rb 0).view.dmaCredit = NS := by unfold NS; rfl
theorem NM_eq : (row mM 31).view.dmaCredit = NM := by unfold NM; rfl

end Cert.KernelIdeal.Ring

end
-- ==== Proof.Ideal.Sched.lean ====
/- The protocol as a schedule of rounds: what each cell expects in a round, and what its units hand over. -/
module

public import proofs.«01_k».proof.Proof.Ideal.Cells

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Values -/

/-- What the devices hold of the two operands. -/
structure Ops (F : FTy → Type) where
  x : Dev nD → (cc0_stg0_0 : Ref sig .tc).ty.Contents (Elt F)
  w : Dev nD → (cc0_stg1_0 : Ref sig .tc).ty.Contents (Elt F)

variable (V : Ops F)

/-- A step's block product on device `c`: rows of `x` by the direction's half of the columns of `w`. -/
def pd : (d : Bool) → (c : Dev nD) → (s : ℕ) → FVec F S128x4096 .f32
  | false, c, s => if h : s < 32 then part ((xM.access (rectA c s h)).read (Elt F) (V.x c)) ((wM.access (colR false)).read (Elt F) (V.w c))
      else constant S128x4096 .f32 0x00000000#32
  | true, c, s => if h : s < 32 then part ((xM.access (rectB c s h)).read (Elt F) (V.x c)) ((wM.access (colR true)).read (Elt F) (V.w c))
      else constant S128x4096 .f32 0x00000000#32

/-- The running sum that device `c` has after step `n`. -/
def val (d : Bool) : ℕ → Dev nD → FVec F S128x4096 .f32
  | 0, c => pd V d c 0
  | n + 1, c => addf (pd V d c (n + 1)) (val d n (src d c))

/-- The columns of the two directions put into a buffer. -/
def both (f : (cc0_stg2_0 : Ref sig .tc).ty.Contents (Elt F)) (a b : FVec F S128x4096 .f32) : (cc0_stg2_0 : Ref sig .tc).ty.Contents (Elt F) :=
  (oM.access (colR true)).write (Elt F) ((oM.access (colR false)).write (Elt F) f a Finset.univ) b Finset.univ
/-- A device's rows of the product. -/
def oVal (c : Dev nD) : (cc0_stg2_0 : Ref sig .tc).ty.Contents (Elt F) :=
  both (constant S128x8192 .f32 0x00000000#32) (val V false 31 c) (val V true 31 c)

/-- A row block as the transfer sees it. -/
def sqRow (w : Vec F S1x8x128 .f32) : Vec F S8x128 .f32 := fun x => w (Shape.reshapeEquiv squeezes_S1x8x128_S8x128.numel_eq x)
/-- A device's maximum, spread over a row block. -/
def rowVal (c : Dev nD) : Vec F S8x128 .f32 := sqRow (amaxOf (oVal V c))

/-! ## Assertions -/

/-- A memref of device `c` at some contents. -/
def anyAt (c : Dev nD) {s : Shape} (M : Memref sig .tc .vmem s .f32) : sProp 𝕄 :=
  iprop(∃ f, M.view.loc (c : Thread nD τ) ↦[M.view.set]{fullShare} f)
instance anyAt_storable (c : Dev nD) {s : Shape} (M : Memref sig .tc .vmem s .f32) : BI.Storable (upEmb : UEmb _ 𝕄) (anyAt (F := F) c M) := by
  unfold anyAt; infer_instance

abbrev sbS (d : Bool) (n : ℕ) : Memref sig .tc .vmem S128x4096 .f32 := slot (lane d).sb (par n)
abbrev rbS (d : Bool) (n : ℕ) : Memref sig .tc .vmem S128x4096 .f32 := slot (lane d).rb (par n)
/-- Row block `i`. -/
abbrev rowN (i : ℕ) : Memref sig .tc .vmem S8x128 .f32 := row mM ⟨i % 32, Nat.mod_lt _ (by decide)⟩

/-- The shares of the maximum's source: what is left after `n` transfers, and what transfer `n` takes. -/
def restS : ℕ → PosShare TreeShare
  | 0 => fullShare
  | n + 1 => (restS n).right
def shr (n : ℕ) : PosShare TreeShare := (restS n).left

/-- The row blocks that travel with message `n` the way round. -/
def carry : Bool → Dev nD → ℕ → sProp 𝕄
  | false, c, n => bigSep (Finset.range (31 - n)) fun i => anyAt (F := F) (org c n) (rowN i)
  | true, _, _ => iprop(emp)
instance carry_storable : ∀ (d : Bool) (c : Dev nD) (n : ℕ), BI.Storable (upEmb : UEmb _ 𝕄) (carry (F := F) d c n)
  | false, c, n => by unfold carry; infer_instance
  | true, c, n => by unfold carry; infer_instance

def barPay (c : Dev nD) (d : Bool) : sProp 𝕄 := iprop(anyAt (F := F) (dst d c) (rbS d 0) ∗ anyAt (F := F) (dst d c) (rbS d 1))
def sendPay (c : Dev nD) (d : Bool) (n : ℕ) : sProp 𝕄 := anyAt (F := F) c (sbS d n)
def recvPay (c : Dev nD) (d : Bool) (n : ℕ) : sProp 𝕄 :=
  iprop(owns (c : Thread nD τ) (rbS d n) fullShare (val V d n (src d c)) ∗ reached ER (cell (src d c) (cK d n)) (n / 2) ∗ carry (F := F) d c n)
/-- The slot that a credit hands back; the last two stay where they are. -/
def backPay (c : Dev nD) (d : Bool) (n : ℕ) : sProp 𝕄 := if n < 29 then anyAt (F := F) c (rbS d n) else iprop(emp)
instance backPay_storable (c : Dev nD) (d : Bool) (n : ℕ) : BI.Storable (upEmb : UEmb _ 𝕄) (backPay (F := F) c d n) := by
  unfold backPay; split <;> infer_instance
def credPay (c : Dev nD) (d : Bool) (n : ℕ) : sProp 𝕄 :=
  iprop(backPay (F := F) (dst d c) d n ∗ reached ER (cell (dst d c) (rK d n)) (n / 2 + 1))
def msPay (c : Dev nD) (i : Fin 31) : sProp 𝕄 := owns (c : Thread nD τ) (rowN 31) (shr i.val) (rowVal V c)
def mrPay (c : Dev nD) (i : Fin 31) : sProp 𝕄 := owns (c : Thread nD τ) (rowN i.val) fullShare (rowVal V (bwd i c))

/-! ## The schedule -/

def dutiesK : Kd → ℕ → Finset Bool
  | none, r => if r = 0 then Finset.univ else ∅
  | some (.inl (_, _, k)), r => if 2 * r + k.val ≤ 30 then {false} else ∅
  | some (.inr _), r => if r = 0 then {false} else ∅
def amountK : Kd → ℕ
  | none => 1
  | some (.inl (0, _, _)) => NS
  | some (.inl (1, _, _)) => NS
  | some (.inl (2, _, _)) => 1
  | some (.inr _) => NM
def payK (c : Dev nD) : Kd → ℕ → Bool → sProp 𝕄
  | none, _, d => barPay c d
  | some (.inl (0, d, k)), r, _ => sendPay c d (2 * r + k.val)
  | some (.inl (1, d, k)), r, _ => recvPay V c d (2 * r + k.val)
  | some (.inl (2, d, k)), r, _ => credPay c d (2 * r + k.val)
  | some (.inr (false, i)), _, _ => msPay V c i
  | some (.inr (true, i)), _, _ => mrPay V c i
instance payK_storable (c : Dev nD) (k : Kd) (r : ℕ) (d : Bool) : BI.Storable (upEmb : UEmb _ 𝕄) (payK V c k r d) := by
  unfold payK
  split <;> (first | unfold barPay | unfold sendPay | unfold recvPay | unfold credPay | unfold msPay | unfold mrPay) <;> infer_instance

theorem NS_pos : 0 < NS := by rw [← NS_eq]; exact View.dmaCredit_pos _ (by decide)
theorem NM_pos : 0 < NM := by rw [← NM_eq]; exact View.dmaCredit_pos _ (by decide)
theorem amountK_pos (k : Kd) : 0 < amountK k := by
  unfold amountK; split
  · exact Nat.one_pos
  · exact NS_pos
  · exact NS_pos
  · exact Nat.one_pos
  · exact NM_pos
theorem amountK_s (d : Bool) (n : ℕ) : amountK (sK d n) = NS := by simp only [amountK]
theorem amountK_r (d : Bool) (n : ℕ) : amountK (rK d n) = NS := by simp only [amountK]
theorem amountK_c (d : Bool) (n : ℕ) : amountK (cK d n) = 1 := by simp only [amountK]
theorem amountK_m (b : Bool) (i : Fin 31) : amountK (some (.inr (b, i))) = NM := by simp only [amountK]

/-- The schedule of every cell: nothing on a cell that is not a TensorCore's or not the protocol's. -/
def Rd : Schedule (GSem nD τ sig) Bool 𝕄 where
  duties g r := if g.1.2 = .tc then ((kindOf g.2).elim ∅ fun k => dutiesK k r) else ∅
  amount g r _ := ((kindOf g.2).elim 1 fun k => amountK k)
  payload g r d := ((kindOf g.2).elim iprop(emp) fun k => payK V g.1.1 k r d)
  amount_pos g r d _ := by
    cases kindOf g.2 with
    | none => exact Nat.one_pos
    | some k => exact amountK_pos k

instance Rd_storable (g : GSem nD τ sig) (r : ℕ) (d : Bool) : BI.Storable (upEmb : UEmb _ 𝕄) ((Rd V).payload g r d) := by
  show BI.Storable upEmb ((kindOf g.2).elim iprop(emp) fun k => payK V g.1.1 k r d)
  cases kindOf g.2 with
  | none => show BI.Storable (upEmb : UEmb _ 𝕄) iprop(emp); infer_instance
  | some k => show BI.Storable (upEmb : UEmb _ 𝕄) (payK V g.1.1 k r d); infer_instance

theorem duties_cell (c : Dev nD) (k : Kd) (r : ℕ) : (Rd V).duties (cell c k) r = dutiesK k r := by
  show (if (cell c k).1.2 = .tc then ((kindOf (csem k)).elim ∅ fun k => dutiesK k r) else ∅) = _
  rw [if_pos rfl, kindOf_csem]; rfl
theorem amount_cell (c : Dev nD) (k : Kd) (r : ℕ) (d : Bool) : (Rd V).amount (cell c k) r d = amountK k := by
  show (kindOf (csem k)).elim 1 (fun k => amountK k) = _
  rw [kindOf_csem]; rfl
theorem payload_cell (c : Dev nD) (k : Kd) (r : ℕ) (d : Bool) : (Rd V).payload (cell c k) r d = payK V c k r d := by
  show (kindOf (csem k)).elim iprop(emp) (fun k => payK V c k r d) = _
  rw [kindOf_csem]; rfl
theorem expect_cell (c : Dev nD) (k : Kd) (r : ℕ) : (Rd V).expect (cell c k) r = (dutiesK k r).card * amountK k := by
  unfold Schedule.expect Schedule.amountOf
  rw [duties_cell, Finset.sum_congr rfl fun d _ => amount_cell V c k r d, Finset.sum_const, smul_eq_mul]

theorem two_div (n : ℕ) : 2 * (n / 2) + (par n).val = n := Nat.div_add_mod n 2

/-- The duty of message `n` on the three kinds of cells it meets. -/
theorem duties_msg (a : Fin 3) (d : Bool) (n : ℕ) (h : n ≤ 30) : dutiesK (some (.inl (a, d, par n))) (n / 2) = {false} := by
  show (if 2 * (n / 2) + (par n).val ≤ 30 then _ else _) = _
  rw [two_div, if_pos h]
theorem duties_msg_none (a : Fin 3) (d : Bool) (k : Fin 2) (r : ℕ) (h : 30 < 2 * r + k.val) : dutiesK (some (.inl (a, d, k))) r = ∅ := by
  show (if 2 * r + k.val ≤ 30 then _ else _) = _
  rw [if_neg (by omega)]

theorem mem_s (c : Dev nD) (d : Bool) (n : ℕ) (h : n ≤ 30) : false ∈ (Rd V).duties (cell c (sK d n)) (n / 2) := by
  rw [duties_cell, duties_msg _ d n h]; exact Finset.mem_singleton_self _
theorem mem_r (c : Dev nD) (d : Bool) (n : ℕ) (h : n ≤ 30) : false ∈ (Rd V).duties (cell c (rK d n)) (n / 2) := by
  rw [duties_cell, duties_msg _ d n h]; exact Finset.mem_singleton_self _
theorem mem_c (c : Dev nD) (d : Bool) (n : ℕ) (h : n ≤ 30) : false ∈ (Rd V).duties (cell c (cK d n)) (n / 2) := by
  rw [duties_cell, duties_msg _ d n h]; exact Finset.mem_singleton_self _
theorem mem_bar (c : Dev nD) (d : Bool) : d ∈ (Rd V).duties (cell c barK) 0 := by
  rw [duties_cell]; exact Finset.mem_univ _
theorem mem_ms (c : Dev nD) (i : Fin 31) : false ∈ (Rd V).duties (cell c (msK i)) 0 := by
  rw [duties_cell]; exact Finset.mem_singleton_self _
theorem mem_mr (c : Dev nD) (i : Fin 31) : false ∈ (Rd V).duties (cell c (mrK i)) 0 := by
  rw [duties_cell]; exact Finset.mem_singleton_self _

theorem pay_s (c : Dev nD) (d : Bool) (n : ℕ) (b : Bool) : (Rd V).payload (cell c (sK d n)) (n / 2) b = sendPay c d n := by
  rw [payload_cell]; show sendPay c d (2 * (n / 2) + (par n).val) = _; rw [two_div]
theorem pay_r (c : Dev nD) (d : Bool) (n : ℕ) (b : Bool) : (Rd V).payload (cell c (rK d n)) (n / 2) b = recvPay V c d n := by
  rw [payload_cell]; show recvPay V c d (2 * (n / 2) + (par n).val) = _; rw [two_div]
theorem pay_c (c : Dev nD) (d : Bool) (n : ℕ) (b : Bool) : (Rd V).payload (cell c (cK d n)) (n / 2) b = credPay c d n := by
  rw [payload_cell]; show credPay c d (2 * (n / 2) + (par n).val) = _; rw [two_div]

theorem expect_s (c : Dev nD) (d : Bool) (n : ℕ) (h : n ≤ 30) : (Rd V).expect (cell c (sK d n)) (n / 2) = NS := by
  rw [expect_cell, duties_msg _ d n h, Finset.card_singleton, Nat.one_mul, amountK_s]
theorem expect_r (c : Dev nD) (d : Bool) (n : ℕ) (h : n ≤ 30) : (Rd V).expect (cell c (rK d n)) (n / 2) = NS := by
  rw [expect_cell, duties_msg _ d n h, Finset.card_singleton, Nat.one_mul, amountK_r]
theorem expect_c (c : Dev nD) (d : Bool) (n : ℕ) (h : n ≤ 30) : (Rd V).expect (cell c (cK d n)) (n / 2) = 1 := by
  rw [expect_cell, duties_msg _ d n h, Finset.card_singleton, Nat.one_mul, amountK_c]
theorem expect_bar (c : Dev nD) : (Rd V).expect (cell c barK) 0 = 2 := by
  rw [expect_cell]; show (Finset.univ : Finset Bool).card * 1 = 2; rw [Finset.card_univ, Fintype.card_bool]
theorem expect_ms (c : Dev nD) (i : Fin 31) : (Rd V).expect (cell c (msK i)) 0 = NM := by
  rw [expect_cell, amountK_m]; show ({false} : Finset Bool).card * NM = NM; rw [Finset.card_singleton, Nat.one_mul]
theorem expect_mr (c : Dev nD) (i : Fin 31) : (Rd V).expect (cell c (mrK i)) 0 = NM := by
  rw [expect_cell, amountK_m]; show ({false} : Finset Bool).card * NM = NM; rw [Finset.card_singleton, Nat.one_mul]

/-- From some round on a cell expects nothing more. -/
theorem duties_end (c : Dev nD) (a : Fin 3) (d : Bool) (k : Fin 2) (R : ℕ) (h : 30 < 2 * R + k.val) :
    ∀ r, R ≤ r → (Rd V).duties (cell c (some (.inl (a, d, k)))) r = ∅ := fun r hr => by
  rw [duties_cell]; exact duties_msg_none a d k r (by omega)
theorem duties_end_bar (c : Dev nD) : ∀ r, 1 ≤ r → (Rd V).duties (cell c barK) r = ∅ := fun r hr => by
  rw [duties_cell]; exact if_neg (by omega)
theorem duties_end_m (c : Dev nD) (b : Bool) (i : Fin 31) : ∀ r, 1 ≤ r → (Rd V).duties (cell c (some (.inr (b, i)))) r = ∅ := fun r hr => by
  rw [duties_cell]; exact if_neg (by omega)

/-! ## Levels -/

/-- Every index below the bound may be waited for on a TensorCore's cell, and an index is its own level. -/
@[irreducible] def upTo : Finset ℕ := Finset.range 2000
theorem mem_upTo {n : ℕ} (h : n < 2000) : n ∈ upTo := by unfold upTo; exact Finset.mem_range.mpr h
@[irreducible] def L (g : GSem nD τ sig) : Finset ℕ := if g.1.2 = .tc then upTo else ∅
theorem mem_L {g : GSem nD τ sig} {n : ℕ} (hg : g.1.2 = .tc) (h : n < 2000) : n ∈ L g := by unfold L; rw [if_pos hg]; exact mem_upTo h
def lv (_ : GSem nD τ sig) (n : ℕ) : ℕ := n

/-- Everything owed is on TensorCore cells at an index above `n`. -/
def Above (O : CellTallies nD τ sig ℕ) (n : ℕ) : Prop := ∀ g u, 0 < O g u → g.1.2 = .tc ∧ n < u ∧ u < 2000

theorem Above.zero (n : ℕ) : Above 0 n := fun g u h => absurd h (by simp)
theorem Above.add {O P : CellTallies nD τ sig ℕ} {n : ℕ} (hO : Above O n) (hP : Above P n) : Above (O + P) n := fun g u h => by
  rcases Nat.eq_zero_or_pos (O g u) with h0 | h0
  · exact hP g u (by have : (O + P) g u = O g u + P g u := rfl
                     omega)
  · exact hO g u h0
theorem Above.tally (c : Dev nD) (k : SemLoc sig) (ι N n : ℕ) (h : n < ι) (h' : ι < 2000) : Above (tallyAt ((c : Thread nD τ), k) ι N) n := fun g u hu => by
  rw [tallyAt_apply] at hu
  by_cases hg : g = ((c : Thread nD τ), k) ∧ u = ι
  · obtain ⟨rfl, rfl⟩ := hg; exact ⟨rfl, h, h'⟩
  · rw [if_neg hg] at hu; exact absurd hu (Nat.lt_irrefl 0)
theorem Above.sum {α : Type} (s : Finset α) (f : α → CellTallies nD τ sig ℕ) (n : ℕ) (h : ∀ a ∈ s, Above (f a) n) : Above (∑ a ∈ s, f a) n := by
  classical
  induction s using Finset.induction_on with
  | empty => rw [Finset.sum_empty]; exact Above.zero n
  | insert a s ha ih =>
    rw [Finset.sum_insert ha]
    exact (h a (Finset.mem_insert_self _ _)).add (ih fun b hb => h b (Finset.mem_insert_of_mem hb))
theorem Above.mono {O : CellTallies nD τ sig ℕ} {n n' : ℕ} (h : Above O n') (hn : n ≤ n') : Above O n := fun g u hu =>
  ⟨(h g u hu).1, lt_of_le_of_lt hn (h g u hu).2.1, (h g u hu).2.2⟩

/-- The levels of all the cells. -/
@[irreducible] def levs : sProp 𝕄 := levAts L lv
instance levs_persistent : BI.Persistent (levs (F := F)) := by unfold levs; infer_instance

theorem Above.mayWait {O : CellTallies nD τ sig ℕ} {n : ℕ} (h : Above O n) (hn : n < 2000) (c : Dev nD) (s : SemLoc sig) :
    levs (F := F) ⊢ MayWait (c : Thread nD τ) s n O := by
  unfold levs
  exact MayOwe.of_cut (L := L) (lev := lv) n
    (fun p hp => by rw [Finset.mem_singleton.mp hp]; exact mem_L rfl hn)
    (fun g u hg => mem_L (h g u hg).1 (h g u hg).2.2)
    (fun p hp => by rw [Finset.mem_singleton.mp hp]; exact le_refl n) (fun g u hg => (h g u hg).2.1)

/-! ## What a device owes -/

/-- What a device owes of direction `d` from message `a` on to the device it sends to, and from message `b` on to
    the one it takes from; of the maxima, from the `i`-th on. -/
def owedR (c : Dev nD) (d : Bool) (a : ℕ) : CellTallies nD τ sig ℕ := ∑ n ∈ Finset.Ico a 31, tallyAt (cell (dst d c) (rK d n)) (2 * n + 2) NS
def owedC (c : Dev nD) (d : Bool) (a : ℕ) : CellTallies nD τ sig ℕ := ∑ n ∈ Finset.Ico a 31, tallyAt (cell (src d c) (cK d n)) (2 * n + 5) 1
abbrev f31 (i : ℕ) : Fin 31 := ⟨i % 31, Nat.mod_lt _ (by decide)⟩
def owedM (c : Dev nD) (a : ℕ) : CellTallies nD τ sig ℕ := ∑ i ∈ Finset.Ico a 31, tallyAt (cell (fwd (f31 i) c) (mrK (f31 i))) 1000 NM

theorem owedR_succ (c : Dev nD) (d : Bool) (a : ℕ) (h : a < 31) :
    owedR c d a = owedR c d (a + 1) + tallyAt (cell (dst d c) (rK d a)) (2 * a + 2) NS := by
  unfold owedR; rw [Idealize.ShloMosaic.Ring.sum_Ico_succ h, add_comm]
theorem owedC_succ (c : Dev nD) (d : Bool) (a : ℕ) (h : a < 31) :
    owedC c d a = owedC c d (a + 1) + tallyAt (cell (src d c) (cK d a)) (2 * a + 5) 1 := by
  unfold owedC; rw [Idealize.ShloMosaic.Ring.sum_Ico_succ h, add_comm]
theorem owedM_succ (c : Dev nD) (a : ℕ) (h : a < 31) :
    owedM c a = owedM c (a + 1) + tallyAt (cell (fwd (f31 a) c) (mrK (f31 a))) 1000 NM := by
  unfold owedM; rw [Idealize.ShloMosaic.Ring.sum_Ico_succ h, add_comm]
theorem owedR_end (c : Dev nD) (d : Bool) : owedR c d 31 = 0 := by unfold owedR; rw [Finset.Ico_self, Finset.sum_empty]
theorem owedC_end (c : Dev nD) (d : Bool) : owedC c d 31 = 0 := by unfold owedC; rw [Finset.Ico_self, Finset.sum_empty]
theorem owedM_end (c : Dev nD) : owedM c 31 = 0 := by unfold owedM; rw [Finset.Ico_self, Finset.sum_empty]

theorem owedR_above (c : Dev nD) (d : Bool) (a n : ℕ) (h : n < 2 * a + 2) : Above (owedR c d a) n :=
  Above.sum _ _ _ fun m hm => by have := Finset.mem_Ico.mp hm; exact Above.tally _ _ _ _ _ (by omega) (by omega)
theorem owedC_above (c : Dev nD) (d : Bool) (a n : ℕ) (h : n < 2 * a + 5) : Above (owedC c d a) n :=
  Above.sum _ _ _ fun m hm => by have := Finset.mem_Ico.mp hm; exact Above.tally _ _ _ _ _ (by omega) (by omega)
theorem owedM_above (c : Dev nD) (a n : ℕ) (h : n < 1000) : Above (owedM c a) n :=
  Above.sum _ _ _ fun m hm => Above.tally _ _ _ _ _ h (by decide)

/-- What a device owes at the launch: the ring's parts, the maxima and its two neighbours' barriers. -/
def owed (c : Dev nD) (a b a' b' i : ℕ) : CellTallies nD τ sig ℕ := owedR c false a + owedC c false b + (owedR c true a' + owedC c true b') + owedM c i
def owed0 (c : Dev nD) : CellTallies nD τ sig ℕ :=
  owed c 0 0 0 0 0 + tallyAt (cell (nxt c) barK) 1 1 + tallyAt (cell (prv c) barK) 1 1

end Cert.KernelIdeal.Ring

end
-- ==== Proof.Ideal.Steps.lean ====
/- One rule for each thing the kernel does: filling a slot, sending it, waiting for it, giving a credit back. -/
module

public import proofs.«01_k».proof.Proof.Ideal.Sched

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition on device `c`. -/
abbrev WP (c : Dev nD) (P : PR F) (Q : PUnit → sProp 𝕄) : sProp 𝕄 :=
  wp frame (wpE (defs₀ (F := F)) 𝒱₀ (c : Thread nD τ) none) Set.univ P Q

/-- What a device owes, whatever it has waited for. -/
def Owes (c : Dev nD) (O : CellTallies nD τ sig ℕ) : sProp 𝕄 := iprop(∃ W, owes (c : Thread nD τ) O W)

variable (V : Ops F) (K : Dev nD × Kd → ℕ)

/-! ## What every device knows -/

def records : sProp 𝕄 := bigSep (Finset.univ : Finset (Dev nD × Kd)) fun ck => cellInv ER (Rd V) (K ck) (kcell ck)
def starts : sProp 𝕄 := bigSep (Finset.univ : Finset (Dev nD × Kd)) fun ck => reached ER (kcell ck) 0
/-- The invariants of all cells, that each has reached its first round, and the levels. -/
def ctx : sProp 𝕄 := iprop(records V K ∗ starts (F := F) ∗ levs (F := F))

instance records_persistent : BI.Persistent (records V K) := by unfold records; infer_instance
instance starts_persistent : BI.Persistent (starts (F := F)) := by unfold starts; infer_instance
instance ctx_persistent : BI.Persistent (ctx V K) := by unfold ctx; infer_instance

theorem ctx_inv (c : Dev nD) (k : Kd) : ctx V K ⊢ cellInv ER (Rd V) (K (c, k)) (cell c k) := by
  have h : records V K ⊢ cellInv ER (Rd V) (K (c, k)) (cell c k) :=
    BI.bigSep_elim (i := (c, k)) (Finset.mem_univ (c, k))
  unfold ctx; iintro ⟨H, -, -⟩; iapply h; iexact H
theorem ctx_start (c : Dev nD) (k : Kd) : ctx V K ⊢ reached ER (cell c k) 0 := by
  have h : starts (F := F) ⊢ reached ER (cell c k) 0 :=
    BI.bigSep_elim (i := (c, k)) (Finset.mem_univ (c, k))
  unfold ctx; iintro ⟨-, H, -⟩; iapply h; iexact H
theorem ctx_lev : ctx V K ⊢ levs (F := F) := by
  unfold ctx; iintro ⟨-, -, H⟩; iexact H

/-! ## Slots and row blocks under the accesses that fill and read them -/

theorem slot_read_write (M : Memref sig .tc .vmem S2x128x4096 .f32) (k : Fin 2) (f : M.view.ty.Contents (Elt F)) (p : FVec F S128x4096 .f32) :
    (slot M k).view.read (Elt F) ((M.access (slotR k)).write (Elt F) f (enc p) Finset.univ) = p := by
  funext x
  have h := congrFun (View.read_write_univ (v := M.access (slotR k)) f (enc p)) (Shape.reshapeEquiv squeezes_S1x128x4096_S128x4096.numel_eq x)
  refine (show (slot M k).view.read (Elt F) _ x = (M.access (slotR k)).read (Elt F) _ (Shape.reshapeEquiv squeezes_S1x128x4096_S128x4096.numel_eq x) from rfl).trans (h.trans ?_)
  show p _ = p x
  rw [Shape.reshapeEquiv_reshapeEquiv, Shape.reshapeEquiv_self]

theorem slot_dec (M : Memref sig .tc .vmem S2x128x4096 .f32) (k : Fin 2) (f : M.view.ty.Contents (Elt F)) :
    dec ((M.access (slotR k)).read (Elt F) f) = (slot M k).view.read (Elt F) f := rfl

theorem row_read_write (i : Fin 32) (f : mM.view.ty.Contents (Elt F)) (w : FVec F S1x8x128 .f32) :
    (row mM i).view.read (Elt F) ((mM.access (rowR i)).write (Elt F) f w Finset.univ) = sqRow w := by
  funext x
  exact congrFun (View.read_write_univ (v := mM.access (rowR i)) f w) (Shape.reshapeEquiv squeezes_S1x8x128_S8x128.numel_eq x)

theorem owns_anyAt (c : Dev nD) {s : Shape} (M : Memref sig .tc .vmem s .f32) (X : s.Idx → Elt F .f32) :
    (owns (c : Thread nD τ) M fullShare X : sProp 𝕄) ⊢ anyAt c M := by
  unfold owns anyAt; iintro ⟨%f, -, H⟩; iexists f; iexact H

/-! ## Filling a slot -/

theorem fill_wp (c : Dev nD) (Ln : Lane) (k : Fin 2) (p : FVec F S128x4096 .f32) (P : PR F) (Q : PUnit → sProp 𝕄) :
    anyAt (F := F) c (slot Ln.sb k)
      ⊢ iprop((owns (c : Thread nD τ) (slot Ln.sb k) fullShare p -∗ WP c P Q) -∗ WP c (fill Ln k p P) Q) := by
  unfold anyAt fill
  iintro ⟨%f, H⟩ Hk
  iapply (wp_load_rect 𝒱₀ (c : Thread nD τ) none Set.univ (m := Ln.sb) (r := slotR k) (S := (slot Ln.sb k).view.set) (f := f)
    (by rw [View.set_reshape])) $$ [H]
  · iexact H
  iintro H
  iapply (wp_store 𝒱₀ (c : Thread nD τ) none Set.univ (m := Ln.sb) (r := slotR k) (Mk := Finset.univ) (S := (slot Ln.sb k).view.set) (f := f)
    (by rw [View.setOn_univ, View.set_reshape])) $$ [H]
  · iexact H
  iintro H
  iapply Hk
  unfold owns
  iexists ((Ln.sb.access (slotR k)).write (Elt F) f (enc p) Finset.univ)
  isplitr
  · ipureintro; exact slot_read_write Ln.sb k f p
  · iexact H

/-! ## Waiting -/

theorem wait_dma_wp (c : Dev nD) (kd : Kd) (s : DmaSem sig) (hs : csem kd = .dma s) {sh : Shape} {A B : Memref sig .tc .vmem sh .f32}
    {hA : A.view.WordExact} {hB : B.view.WordExact} (r ι N : ℕ) (O : CellTallies nD τ sig ℕ) (hN : B.view.dmaCredit = N)
    (hexp : (Rd V).expect (cell c kd) r = N) (hd : (Rd V).duties (cell c kd) r = {false}) (hO : Above O ι) (hι : ι < 2000)
    (P : PR F) (Q : PUnit → sProp 𝕄) :
    iprop(ctx V K ∗ cred (tallyAt (cell c kd) ι N) ∗ Owes c O ∗ atPos ER (cell c kd) r ∅ 0)
      ⊢ iprop(((Owes c O ∗ atPos ER (cell c kd) (r + 1) ∅ 0 ∗ reached ER (cell c kd) (r + 1) ∗ (Rd V).payload (cell c kd) r false) -∗ WP c P Q)
        -∗ WP c (.op (.waitDma2 s A B hA hB) fun _ => P) Q) := by
  have hc : cell c kd = ((c : Thread nD τ), SemLoc.dma s) := by unfold cell; rw [hs]
  rw [hc] at hexp hd ⊢
  subst hN
  have hm : ctx V K ⊢ MayWait (c : Thread nD τ) (.dma s) ι O := (ctx_lev V K).trans (hO.mayWait (F := F) hι c (.dma s))
  unfold Owes
  iintro ⟨#Hctx, Hcr, ⟨%W, HO⟩, Hat⟩ Hk
  iapply (Rounds.wp_wait_rest_token 𝒱₀ ER (Rd V) (c : Thread nD τ) none (κ := K (c, kd))
      (wpE_waitDma2_eq 𝒱₀ (c : Thread nD τ) none Set.univ) (Set.mem_univ _) ι (O := O) (W := W) (R := r) (m := 0) (T := ∅)
      (by rw [Nat.zero_add, hexp])) $$ [Hcr HO Hat]
  · isplitr
    · have hi := ctx_inv V K c kd
      rw [hc] at hi
      iapply hi; iexact Hctx
    isplitl [Hcr]; · iexact Hcr
    isplitl [HO]; · iexact HO
    isplitr
    · iapply hm; iexact Hctx
    iexact Hat
  iintro ⟨HO, Hat, Hr, Hpay⟩
  iapply Hk
  isplitl [HO]; · iexists _; iexact HO
  isplitl [Hat]; · iexact Hat
  isplitl [Hr]; · iexact Hr
  ihave Hp := (Entails.of_eq (show bigSep ((Rd V).duties ((c : Thread nD τ), SemLoc.dma s) r \ ∅) (fun d => (Rd V).payload ((c : Thread nD τ), SemLoc.dma s) r d)
    = (Rd V).payload ((c : Thread nD τ), SemLoc.dma s) r false by rw [hd, Finset.sdiff_empty, bigSep_singleton])) $$ Hpay
  iexact Hp

theorem wait_reg_wp (c : Dev nD) (kd : Kd) (s : Sem sig) (hs : csem kd = .reg s) (n : BitVec 32) (N : ℕ) (hn : n.toInt = (N : ℤ))
    (r ι : ℕ) (O : CellTallies nD τ sig ℕ)
    (hexp : (Rd V).expect (cell c kd) r = N) (hO : Above O ι) (hι : ι < 2000)
    (P : PR F) (Q : PUnit → sProp 𝕄) :
    iprop(ctx V K ∗ cred (tallyAt (cell c kd) ι N) ∗ Owes c O ∗ atPos ER (cell c kd) r ∅ 0)
      ⊢ iprop(((Owes c O ∗ atPos ER (cell c kd) (r + 1) ∅ 0 ∗ reached ER (cell c kd) (r + 1)
            ∗ bigSep ((Rd V).duties (cell c kd) r) fun d => (Rd V).payload (cell c kd) r d) -∗ WP c P Q)
        -∗ WP c (wait1 s n P) Q) := by
  have hc : cell c kd = ((c : Thread nD τ), SemLoc.reg s) := by unfold cell; rw [hs]
  rw [hc] at hexp ⊢
  have hm : ctx V K ⊢ MayWait (c : Thread nD τ) (.reg s) ι O := (ctx_lev V K).trans (hO.mayWait (F := F) hι c (.reg s))
  unfold Owes wait1
  rw [hn]
  iintro ⟨#Hctx, Hcr, ⟨%W, HO⟩, Hat⟩ Hk
  iapply (Rounds.wp_wait_rest_token 𝒱₀ ER (Rd V) (c : Thread nD τ) none (κ := K (c, kd))
      (wpE_semWait_eq 𝒱₀ (c : Thread nD τ) none Set.univ) (Set.mem_univ _) ι (O := O) (W := W) (R := r) (m := 0) (T := ∅)
      (by rw [Nat.zero_add, hexp])) $$ [Hcr HO Hat]
  · isplitr
    · have hi := ctx_inv V K c kd
      rw [hc] at hi
      iapply hi; iexact Hctx
    isplitl [Hcr]; · iexact Hcr
    isplitl [HO]; · iexact HO
    isplitr
    · iapply hm; iexact Hctx
    iexact Hat
  iintro ⟨HO, Hat, Hr, Hpay⟩
  iapply Hk
  isplitl [HO]; · iexists _; iexact HO
  isplitl [Hat]; · iexact Hat
  isplitl [Hr]; · iexact Hr
  ihave Hp := (Entails.of_eq (show bigSep ((Rd V).duties ((c : Thread nD τ), SemLoc.reg s) r \ ∅) (fun d => (Rd V).payload ((c : Thread nD τ), SemLoc.reg s) r d)
    = bigSep ((Rd V).duties ((c : Thread nD τ), SemLoc.reg s) r) (fun d => (Rd V).payload ((c : Thread nD τ), SemLoc.reg s) r d) by rw [Finset.sdiff_empty])) $$ Hpay
  iexact Hp

/-! ## Signalling -/

theorem sig_wp (c t : Dev nD) (kd : Kd) (s : Sem sig) (hs : csem kd = .reg s) (r ι : ℕ) (d : Bool) (O₀ O : CellTallies nD τ sig ℕ)
    (hd : d ∈ (Rd V).duties (cell t kd) r) (ha : amountK kd = 1) (hO : O₀ = O + tallyAt (cell t kd) ι 1)
    (P : PR F) (Q : PUnit → sProp 𝕄) :
    iprop(ctx V K ∗ Owes c O₀ ∗ dutyTok ER (cell t kd) r d ∗ (Rd V).payload (cell t kd) r d ∗ reached ER (cell t kd) r)
      ⊢ iprop((Owes c O -∗ WP c P Q) -∗ WP c (sig1 s t P) Q) := by
  have hc : cell t kd = ((t : Thread nD τ), SemLoc.reg s) := by unfold cell; rw [hs]
  have hk := amount_cell V t kd r d
  rw [ha] at hk
  rw [hc] at hd hO hk ⊢
  unfold Owes sig1
  rw [show (1#32).toInt = ((1 : ℕ) : ℤ) by decide]
  iintro ⟨#Hctx, ⟨%W, HO⟩, Ht, Hp, Hr⟩ Hk
  iapply (Rounds.wp_signal 𝒱₀ ER (Rd V) (c : Thread nD τ) none (dst := (t : Thread nD τ)) (κ := K (t, kd)) (d := d) hd hk ι O hO)
    $$ [HO Ht Hp Hr]
  · isplitr
    · have hi := ctx_inv V K t kd
      rw [hc] at hi
      iapply hi; iexact Hctx
    isplitl [HO]; · iexact HO
    isplitl [Ht]; · iexact Ht
    isplitl [Hp]; · iexact Hp
    iexact Hr
  iintro HO
  iapply Hk
  iexists W; iexact HO

/-! ## Sending -/

theorem landed_owns (t : Dev nD) {sh : Shape} {A : Memref sig .tc .vmem sh .f32} (B : Memref sig .tc .vmem sh .f32) {X : sh.Idx → Elt F .f32}
    (g : B.view.ty.Contents (Elt F)) (f : A.view.ty.Contents (Elt F)) (hf : A.view.read (Elt F) f = X) :
    (B.view.loc (t : Thread nD τ) ↦[B.view.set]{fullShare} (B.view.write (Elt F) g (A.view.read (Elt F) f) Finset.univ) : sProp 𝕄)
      ⊢ owns (t : Thread nD τ) B fullShare X := by
  have e : B.view.read (Elt F) (B.view.write (Elt F) g (A.view.read (Elt F) f) Finset.univ) = X := by
    rw [View.read_write_univ, hf]
  rw [← e]; exact owns_intro (t : Thread nD τ) B fullShare _

theorem send_wp (c t : Dev nD) (k₁ k₂ : Kd) (s₁ s₂ : DmaSem sig) (hs₁ : csem k₁ = .dma s₁) (hs₂ : csem k₂ = .dma s₂)
    {sh : Shape} {A B : Memref sig .tc .vmem sh .f32} {hsc : (B : Memref sig (Dev.tc t : Thread nD τ).2.kind .vmem sh .f32).view.ref.isScScratch = false}
    {hA : A.view.WordExact} {hB : B.view.WordExact}
    {hT : DmaTarget.Typed .vmem (.dma s₂) (.remote (Dev.tc t : Thread nD τ) B (.dma s₁) hsc)}
    (r₁ r₂ ι N : ℕ) (hN : B.view.dmaCredit = N) (ha₁ : amountK k₁ = N) (ha₂ : amountK k₂ = N)
    (hd₁ : false ∈ (Rd V).duties (cell c k₁) r₁) (hd₂ : false ∈ (Rd V).duties (cell t k₂) r₂)
    (O₀ O : CellTallies nD τ sig ℕ) (hO : O₀ = O + tallyAt (cell t k₂) ι N)
    (q : PosShare TreeShare) (X : sh.Idx → Elt F .f32) (G : sProp 𝕄)
    (hp₁ : owns (c : Thread nD τ) A q X ⊢ (Rd V).payload (cell c k₁) r₁ false)
    (hp₂ : iprop(owns (t : Thread nD τ) B fullShare X ∗ G) ⊢ (Rd V).payload (cell t k₂) r₂ false)
    (P : PR F) (Q : PUnit → sProp 𝕄) :
    iprop(ctx V K ∗ owns (c : Thread nD τ) A q X ∗ anyAt (F := F) t B ∗ G ∗ Owes c O₀
        ∗ dutyTok ER (cell c k₁) r₁ false ∗ reached ER (cell c k₁) r₁ ∗ dutyTok ER (cell t k₂) r₂ false ∗ reached ER (cell t k₂) r₂)
      ⊢ iprop(((cred (tallyAt (cell c k₁) 0 N) ∗ Owes c O) -∗ WP c P Q)
        -∗ WP c (.op (.enqueueDma A (.remote (Dev.tc t : Thread nD τ) B (.dma s₁) hsc) (.dma s₂) hA hB hT) fun _ => P) Q) := by
  have hc₁ : cell c k₁ = ((c : Thread nD τ), SemLoc.dma s₁) := by unfold cell; rw [hs₁]
  have hc₂ : cell t k₂ = ((t : Thread nD τ), SemLoc.dma s₂) := by unfold cell; rw [hs₂]
  have hk₁ := amount_cell V c k₁ r₁ false
  have hk₂ := amount_cell V t k₂ r₂ false
  rw [ha₁] at hk₁
  rw [ha₂] at hk₂
  have hi₁ := ctx_inv V K c k₁
  have hi₂ := ctx_inv V K t k₂
  rw [hc₁] at hd₁ hk₁ hp₁ hi₁ ⊢
  rw [hc₂] at hd₂ hk₂ hp₂ hO hi₂ ⊢
  unfold Owes anyAt
  conv_lhs => unfold owns
  iintro ⟨#Hctx, ⟨%f, %hf, HA⟩, ⟨%g, HB⟩, HG, ⟨%W, HO⟩, Ht₁, Hr₁, Ht₂, Hr₂⟩ Hk
  have hp₀ : (A.view.loc (c : Thread nD τ) ↦[A.view.set]{q} f : sProp 𝕄) ⊢ owns (c : Thread nD τ) A q (A.view.read (Elt F) f) := owns_intro (c : Thread nD τ) A q f
  rw [hf] at hp₀
  have hp₁' : (A.view.loc (c : Thread nD τ) ↦[A.view.set]{q} f : sProp 𝕄) ⊢ (Rd V).payload ((c : Thread nD τ), .dma s₁) r₁ false := hp₀.trans hp₁
  have hp₂' : iprop((B.view.loc (t : Thread nD τ) ↦[B.view.set]{fullShare} (B.view.write (Elt F) g (A.view.read (Elt F) f) Finset.univ)) ∗ G)
      ⊢ (Rd V).payload ((t : Thread nD τ), .dma s₂) r₂ false := (sep_mono_left (landed_owns t B g f hf)).trans hp₂
  have hN' : B.view.amount (.dma s₂) = N := hN
  have hr : τ.routes (c : Thread nD τ) (t : Thread nD τ) = true := by routes
  iapply (Rounds.wp_send_pointsTo_with 𝒱₀ ER (Rd V) (c : Thread nD τ) none (c' := (t : Thread nD τ)) (src := A) (dst := B) (hsc := hsc) (sS := .dma s₁) (sem := .dma s₂)
      (hsrc := hA) (hdst := hB) (hsem := hT) (κ₁ := K (c, k₁)) (κ₂ := K (t, k₂)) (r₁ := r₁) (r₂ := r₂)
      (d₁ := false) (d₂ := false) (q := q) (fs := f) (fd := g) (F := G) hd₁ hd₂ ι 0 N hN' hk₁ hk₂ O hO (W := W) hp₁' hp₂' (hr := hr)) $$ [HA HB HG HO Ht₁ Hr₁ Ht₂ Hr₂]
  · isplitr; · iapply hi₁; iexact Hctx
    isplitr; · iapply hi₂; iexact Hctx
    isplitl [HA]; · iexact HA
    isplitl [HB HG]
    · isplitl [HB]; · iexact HB
      iexact HG
    isplitl [HO]; · iexact HO
    isplitl [Ht₁]; · iexact Ht₁
    isplitl [Hr₁]; · iexact Hr₁
    isplitl [Ht₂]; · iexact Ht₂
    iexact Hr₂
  iintro ⟨Hcr, HO⟩
  iapply Hk
  isplitl [Hcr]; · iexact Hcr
  iexists W; iexact HO

end Cert.KernelIdeal.Ring

end
-- ==== Proof.Ideal.Half.lean ====
/- One message of one direction: taking it, giving its slot back, and sending the next. -/
module

public import proofs.«01_k».proof.Proof.Ideal.Steps

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Ops F) (K : Dev nD × Kd → ℕ)

theorem cred_rb (d : Bool) (k : Fin 2) : (slot (lane d).rb k).view.dmaCredit = NS := by rw [← NS_eq]
theorem cred_sb (d : Bool) (k : Fin 2) : (slot (lane d).sb k).view.dmaCredit = NS := by rw [← NS_eq]
theorem cred_row (i : Fin 32) : (row mM i).view.dmaCredit = NM := by rw [← NM_eq]

/-! ## The state of a slot -/

/-- Slot of message `m`, free to be filled and sent: the sender's slot, the receiver's slot, and the cells at the
    message's round. -/
def Ready (c : Dev nD) (d : Bool) (m : ℕ) : sProp 𝕄 :=
  iprop(atPos ER (cell c (sK d m)) (m / 2) ∅ 0 ∗ atPos ER (cell c (cK d m)) (m / 2) ∅ 0
    ∗ reached ER (cell c (sK d m)) (m / 2) ∗ reached ER (cell c (cK d m)) (m / 2) ∗ reached ER (cell (dst d c) (rK d m)) (m / 2)
    ∗ anyAt (F := F) (dst d c) (rbS d m))
/-- Message `m` on its way. -/
def Flight (c : Dev nD) (d : Bool) (m : ℕ) : sProp 𝕄 :=
  iprop(atPos ER (cell c (sK d m)) (m / 2) ∅ 0 ∗ atPos ER (cell c (cK d m)) (m / 2) ∅ 0
    ∗ cred (tallyAt (cell c (sK d m)) 0 NS) ∗ cred (tallyAt (cell c (cK d m)) (2 * m + 5) 1))
/-- What message `m` is taken with. -/
def Take (c : Dev nD) (d : Bool) (m : ℕ) : sProp 𝕄 :=
  iprop(cred (tallyAt (cell c (rK d m)) (2 * m + 2) NS) ∗ dutyTok ER (cell (src d c) (cK d m)) (m / 2) false)
/-- What message `m` is sent with. -/
def Give (c : Dev nD) (d : Bool) (m : ℕ) : sProp 𝕄 :=
  iprop(dutyTok ER (cell c (sK d m)) (m / 2) false ∗ dutyTok ER (cell (dst d c) (rK d m)) (m / 2) false
    ∗ cred (tallyAt (cell c (cK d m)) (2 * m + 5) 1))
/-- What a device keeps of message `m` once taken: a row block of another device and, of the last two, the slot. -/
def keepM : Bool → Dev nD → ℕ → sProp 𝕄
  | false, c, m => anyAt (F := F) (org c m) (rowN (30 - m))
  | true, _, _ => iprop(emp)
def keepR (c : Dev nD) (d : Bool) (m : ℕ) : sProp 𝕄 := if m < 29 then iprop(emp) else anyAt (F := F) c (rbS d m)

theorem carry_split (c : Dev nD) (d : Bool) (m : ℕ) (hm : m ≤ 30) :
    carry (F := F) d c m ⊢ iprop(keepM (F := F) d c m ∗ carry (F := F) d (dst d c) (m + 1)) := by
  cases d with
  | true =>
    show iprop(emp) ⊢ iprop(emp ∗ emp)
    exact sep_emp_intro
  | false =>
    show bigSep (Finset.range (31 - m)) (fun i => anyAt (F := F) (org c m) (rowN i))
      ⊢ iprop(anyAt (F := F) (org c m) (rowN (30 - m)) ∗ bigSep (Finset.range (31 - (m + 1))) fun i => anyAt (F := F) (org (nxt c) (m + 1)) (rowN i))
    obtain ⟨k, hk⟩ : ∃ k, 31 - m = k + 1 := ⟨30 - m, by omega⟩
    have e1 : 31 - (m + 1) = k := by omega
    have e2 : 30 - m = k := by omega
    rw [e1, e2, hk, Finset.range_add_one, bigSep_insert Finset.notMem_range_self, org_nxt c m]
    exact .rfl

/-! ## Taking a message -/

theorem take_wp (c : Dev nD) (d : Bool) (m : ℕ) (hm : m ≤ 30) (O : CellTallies nD τ sig ℕ) (hO : Above O (2 * m + 2))
    (P : Vec F S1x128x4096 .f32 → PR F) (Q : PUnit → sProp 𝕄) :
    iprop(ctx V K ∗ Take (F := F) c d m ∗ Owes c (O + tallyAt (cell (src d c) (cK d m)) (2 * m + 5) 1) ∗ atPos ER (cell c (rK d m)) (m / 2) ∅ 0)
      ⊢ iprop((∀ r : Vec F S1x128x4096 .f32, ⌜dec r = val V d m (src d c)⌝ -∗
          (Owes c O ∗ atPos ER (cell c (rK d m)) (m / 2 + 1) ∅ 0 ∗ carry (F := F) d c m ∗ keepR (F := F) c d m) -∗ WP c (P r) Q)
        -∗ WP c (take (lane d) (src d c) (par m) P) Q) := by
  have hpc : (Rd V).payload (cell (src d c) (cK d m)) (m / 2) false = iprop(backPay (F := F) c d m ∗ reached ER (cell c (rK d m)) (m / 2 + 1)) := by
    rw [pay_c]; unfold credPay; rw [dst_src]
  have hbk : anyAt (F := F) c (rbS d m) ⊢ iprop(backPay (F := F) c d m ∗ keepR (F := F) c d m) := by
    unfold backPay keepR
    by_cases h : m < 29
    · rw [if_pos h, if_pos h]; iintro H; isplitl; · iexact H
      iempintro
    · rw [if_neg h, if_neg h]; iintro H; isplitr; · iempintro
      iexact H
  unfold Take take waitSlot
  iintro ⟨#Hctx, ⟨Hcr, Htok⟩, HO, Hat⟩ Hk
  iapply (wait_dma_wp V K c (rK d m) (dsem (lane d).rS (par m)) rfl (m / 2) (2 * m + 2) NS
    (O + tallyAt (cell (src d c) (cK d m)) (2 * m + 5) 1) (cred_rb d (par m)) (expect_r V c d m hm)
    (by rw [duties_cell, duties_msg _ d m hm]) (hO.add (Above.tally _ _ _ _ _ (by omega) (by omega))) (by omega)) $$ [Hcr HO Hat]
  · isplitr; · iexact Hctx
    isplitl [Hcr]; · iexact Hcr
    isplitl [HO]; · iexact HO
    iexact Hat
  iintro ⟨HO, Hat, #Hrr, Hpay⟩
  ihave Hp := (Entails.of_eq (pay_r V c d m false)) $$ Hpay
  unfold recvPay owns
  icases Hp with ⟨⟨%f, %hf, Hrb⟩, Hrc, Hcarry⟩
  iapply (wp_load_rect 𝒱₀ (c : Thread nD τ) none Set.univ (m := (lane d).rb) (r := slotR (par m)) (S := (rbS d m).view.set) (f := f)
    (by rw [View.set_reshape])) $$ [Hrb]
  · iexact Hrb
  iintro Hrb
  have ha : (((lane d).rb.access (slotR (par m))).loc (c : Thread nD τ) ↦[(rbS d m).view.set]{fullShare} f : sProp 𝕄) ⊢ anyAt (F := F) c (rbS d m) := by
    unfold anyAt; iintro H; iexists f; iexact H
  ihave Hb := (ha.trans hbk) $$ Hrb
  icases Hb with ⟨Hback, Hkeep⟩
  iapply (sig_wp V K c (src d c) (cK d m) (rsem (lane d).cS (par m)) rfl (m / 2) (2 * m + 5) false
    (O + tallyAt (cell (src d c) (cK d m)) (2 * m + 5) 1) O (mem_c V _ d m hm) (amountK_c d m) rfl) $$ [HO Htok Hrc Hback]
  · isplitr; · iexact Hctx
    isplitl [HO]; · iexact HO
    isplitl [Htok]; · iexact Htok
    isplitl [Hback]
    · iapply (Entails.of_eq hpc.symm)
      isplitl [Hback]; · iexact Hback
      iexact Hrr
    iexact Hrc
  iintro HO
  ispecialize Hk $$ %(((lane d).rb.access (slotR (par m))).read (Elt F) f)
  ispecialize Hk $$ %(by rw [slot_dec]; exact hf)
  iapply Hk
  isplitl [HO]; · iexact HO
  isplitl [Hat]; · iexact Hat
  isplitl [Hcarry]; · iexact Hcarry
  iexact Hkeep

/-! ## Waiting for a message of one's own -/

theorem sent_wp (c : Dev nD) (d : Bool) (m : ℕ) (hm : m ≤ 30) (O : CellTallies nD τ sig ℕ) (hO : Above O 0) (P : PR F) (Q : PUnit → sProp 𝕄) :
    iprop(ctx V K ∗ cred (tallyAt (cell c (sK d m)) 0 NS) ∗ Owes c O ∗ atPos ER (cell c (sK d m)) (m / 2) ∅ 0)
      ⊢ iprop(((Owes c O ∗ atPos ER (cell c (sK d m)) (m / 2 + 1) ∅ 0 ∗ reached ER (cell c (sK d m)) (m / 2 + 1) ∗ anyAt (F := F) c (sbS d m)) -∗ WP c P Q)
        -∗ WP c (waitSlot (dsem (lane d).sS (par m)) (lane d).rb (lane d).sb (par m) P) Q) := by
  unfold waitSlot
  have h := wait_dma_wp V K c (sK d m) (dsem (lane d).sS (par m)) rfl (A := slot (lane d).rb (par m)) (B := slot (lane d).sb (par m))
    (hA := (View.wordExact_bits rfl).reshape _ _) (hB := (View.wordExact_bits rfl).reshape _ _) (m / 2) 0 NS O
    (cred_sb d (par m)) (expect_s V c d m hm) (by rw [duties_cell, duties_msg _ d m hm]) hO (by omega) P Q
  rw [pay_s] at h
  exact h

theorem credit_wp (c : Dev nD) (d : Bool) (m : ℕ) (hm : m ≤ 30) (O : CellTallies nD τ sig ℕ) (hO : Above O (2 * m + 5)) (P : PR F) (Q : PUnit → sProp 𝕄) :
    iprop(ctx V K ∗ cred (tallyAt (cell c (cK d m)) (2 * m + 5) 1) ∗ Owes c O ∗ atPos ER (cell c (cK d m)) (m / 2) ∅ 0)
      ⊢ iprop(((Owes c O ∗ atPos ER (cell c (cK d m)) (m / 2 + 1) ∅ 0 ∗ reached ER (cell c (cK d m)) (m / 2 + 1) ∗ credPay (F := F) c d m) -∗ WP c P Q)
        -∗ WP c (wait1 (rsem (lane d).cS (par m)) 1#32 P) Q) := by
  have h := wait_reg_wp V K c (cK d m) (rsem (lane d).cS (par m)) rfl 1#32 1 (by decide) (m / 2) (2 * m + 5) O
    (expect_c V c d m hm) hO (by omega) P Q
  rw [duties_cell, duties_msg _ d m hm, bigSep_singleton, pay_c] at h
  exact h

/-! ## Sending a message -/

theorem give_wp (c : Dev nD) (d : Bool) (m : ℕ) (hm : m ≤ 30) (O : CellTallies nD τ sig ℕ) (P : PR F) (Q : PUnit → sProp 𝕄) :
    iprop(ctx V K ∗ owns (c : Thread nD τ) (sbS d m) fullShare (val V d m c) ∗ Ready (F := F) c d m ∗ Give (F := F) c d m ∗ carry (F := F) d (dst d c) m
        ∗ Owes c (O + tallyAt (cell (dst d c) (rK d m)) (2 * m + 2) NS))
      ⊢ iprop(((Flight (F := F) c d m ∗ Owes c O) -∗ WP c P Q) -∗ WP c (send (lane d) (par m) (dst d c) P) Q) := by
  unfold Ready Give send Flight
  have hp₁ : (owns (c : Thread nD τ) (sbS d m) fullShare (val V d m c) : sProp 𝕄) ⊢ (Rd V).payload (cell c (sK d m)) (m / 2) false := by
    rw [pay_s]; exact owns_anyAt c _ _
  have hp₂ : iprop(owns (dst d c : Thread nD τ) (rbS d m) fullShare (val V d m c) ∗ (reached ER (cell c (cK d m)) (m / 2) ∗ carry (F := F) d (dst d c) m))
      ⊢ (Rd V).payload (cell (dst d c) (rK d m)) (m / 2) false := by
    rw [pay_r]; unfold recvPay; rw [src_dst]
  iintro ⟨#Hctx, Hsb, ⟨Hats, Hatc, Hrs, Hrc, Hrr, Hrb⟩, ⟨Ht₁, Ht₂, Hcc⟩, Hcarry, HO⟩ Hk
  iapply (send_wp V K c (dst d c) (sK d m) (rK d m) (dsem (lane d).sS (par m)) (dsem (lane d).rS (par m)) rfl rfl
    (m / 2) (m / 2) (2 * m + 2) NS (cred_rb d (par m)) (amountK_s d m) (amountK_r d m) (mem_s V c d m hm) (mem_r V _ d m hm)
    (O + tallyAt (cell (dst d c) (rK d m)) (2 * m + 2) NS) O rfl fullShare (val V d m c)
    (iprop(reached ER (cell c (cK d m)) (m / 2) ∗ carry (F := F) d (dst d c) m)) hp₁ hp₂) $$ [Hsb Hrb Hrc Hcarry HO Ht₁ Hrs Ht₂ Hrr]
  · isplitr; · iexact Hctx
    isplitl [Hsb]; · iexact Hsb
    isplitl [Hrb]; · iexact Hrb
    isplitl [Hrc Hcarry]
    · isplitl [Hrc]; · iexact Hrc
      iexact Hcarry
    isplitl [HO]; · iexact HO
    isplitl [Ht₁]; · iexact Ht₁
    isplitl [Hrs]; · iexact Hrs
    isplitl [Ht₂]; · iexact Ht₂
    iexact Hrr
  iintro ⟨Hcs, HO⟩
  iapply Hk
  isplitr [HO]
  · isplitl [Hats]; · iexact Hats
    isplitl [Hatc]; · iexact Hatc
    isplitl [Hcs]; · iexact Hcs
    iexact Hcc
  iexact HO

end Cert.KernelIdeal.Ring

end
-- ==== Proof.Ideal.Mids.lean ====
/- The steps round the ring: the first, those between, and the last, each from what a device holds before to what it holds after. -/
module

public import proofs.«01_k».proof.Proof.Ideal.Half

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Ops F) (K : Dev nD × Kd → ℕ)

theorem bigSep_ins {α : Type} [DecidableEq α] {s : Finset α} {i : α} (h : i ∉ s) (Φ : α → sProp 𝕄) :
    bigSep (insert i s) Φ = iprop(Φ i ∗ bigSep s Φ) := bigSep_insert h

/-! ## The state of a direction between steps -/

/-- The slot that message `n` is not in: free at first, and then with the message before on its way. -/
def Other (c : Dev nD) (d : Bool) : ℕ → sProp 𝕄
  | 0 => iprop(Ready (F := F) c d 1 ∗ anyAt (F := F) c (sbS d 1))
  | n + 1 => Flight (F := F) c d n

/-- What is kept of the messages below `n`: the row blocks from the last one down, and the slots. -/
def keepI : Bool → Dev nD → ℕ → sProp 𝕄
  | false, c, i => anyAt (F := F) (fwd (f31 i) c) (rowN i)
  | true, _, _ => iprop(emp)
def Kept (c : Dev nD) (d : Bool) (n : ℕ) : sProp 𝕄 :=
  iprop(bigSep (Finset.Ico (31 - n) 31) (fun i => keepI (F := F) d c i) ∗ bigSep (Finset.range n) fun i => keepR (F := F) c d i)
def Takes (c : Dev nD) (d : Bool) (n : ℕ) : sProp 𝕄 := bigSep (Finset.Ico n 31) fun i => Take (F := F) c d i
def Gives (c : Dev nD) (d : Bool) (n : ℕ) : sProp 𝕄 := bigSep (Finset.Ico n 31) fun i => Give (F := F) c d i

theorem keepM_eq (c : Dev nD) (d : Bool) (n : ℕ) (h : n ≤ 30) : keepM (F := F) d c n = keepI (F := F) d c (30 - n) := by
  cases d with
  | true => rfl
  | false =>
    show anyAt (F := F) (org c n) (rowN (30 - n)) = anyAt (F := F) (fwd (f31 (30 - n)) c) (rowN (30 - n))
    rw [org_fwd c n (by omega), show (⟨30 - n, by omega⟩ : Fin 31) = f31 (30 - n) from Fin.ext (Nat.mod_eq_of_lt (by omega)).symm]
theorem Kept_zero (c : Dev nD) (d : Bool) : ⊢ Kept (F := F) c d 0 := by
  unfold Kept; rw [Finset.range_zero, Finset.Ico_self, bigSep_empty, bigSep_empty]; exact sep_emp_intro
theorem Kept_succ (c : Dev nD) (d : Bool) (n : ℕ) (h : n ≤ 30) :
    iprop((keepM (F := F) d c n ∗ keepR (F := F) c d n) ∗ Kept (F := F) c d n) ⊢ Kept (F := F) c d (n + 1) := by
  have e : Finset.Ico (31 - (n + 1)) 31 = insert (30 - n) (Finset.Ico (31 - n) 31) := by
    rw [show 31 - (n + 1) = 30 - n by omega, Idealize.ShloMosaic.Ring.Ico_eq_insert (by omega : 30 - n < 31), show 30 - n + 1 = 31 - n by omega]
  unfold Kept
  rw [keepM_eq c d n h, e, bigSep_ins (by simp; omega), Finset.range_add_one, bigSep_ins Finset.notMem_range_self]
  iintro ⟨⟨HM, HR⟩, HI, HS⟩
  isplitl [HM HI]
  · isplitl [HM]; · iexact HM
    iexact HI
  isplitl [HR]; · iexact HR
  iexact HS
theorem Takes_succ (c : Dev nD) (d : Bool) (n : ℕ) (h : n < 31) : Takes (F := F) c d n = iprop(Take (F := F) c d n ∗ Takes (F := F) c d (n + 1)) := by
  unfold Takes; rw [Idealize.ShloMosaic.Ring.Ico_eq_insert h, bigSep_insert (by simp)]; rfl
theorem Gives_succ (c : Dev nD) (d : Bool) (n : ℕ) (h : n < 31) : Gives (F := F) c d n = iprop(Give (F := F) c d n ∗ Gives (F := F) c d (n + 1)) := by
  unfold Gives; rw [Idealize.ShloMosaic.Ring.Ico_eq_insert h, bigSep_insert (by simp)]; rfl

/-- The state of a direction when message `n` is on its way and message `n` is to be taken. -/
def St (c : Dev nD) (d : Bool) (n : ℕ) : sProp 𝕄 :=
  iprop(atPos ER (cell c (rK d n)) (n / 2) ∅ 0 ∗ atPos ER (cell c (rK d (n + 1))) ((n + 1) / 2) ∅ 0
    ∗ Flight (F := F) c d n ∗ Other (F := F) c d n ∗ Takes (F := F) c d n ∗ Gives (F := F) c d (n + 1) ∗ Kept (F := F) c d n)

/-- What a direction owes before it takes message `n`. -/
def owedD (c : Dev nD) (d : Bool) (n : ℕ) : CellTallies nD τ sig ℕ := owedR c d (n + 1) + owedC c d n
theorem owedD_above (c : Dev nD) (d : Bool) (n m : ℕ) (h : m < 2 * n + 4) : Above (owedD c d n) m :=
  (owedR_above c d (n + 1) m (by omega)).add (owedC_above c d n m (by omega))

theorem sK_two (d : Bool) (n : ℕ) : sK d (n + 1 + 1) = sK d n := by show some _ = some _; rw [show par (n + 1 + 1) = par n from par_add_two n]
theorem rK_two (d : Bool) (n : ℕ) : rK d (n + 1 + 1) = rK d n := by show some _ = some _; rw [show par (n + 1 + 1) = par n from par_add_two n]
theorem cK_two (d : Bool) (n : ℕ) : cK d (n + 1 + 1) = cK d n := by show some _ = some _; rw [show par (n + 1 + 1) = par n from par_add_two n]
theorem half_two (n : ℕ) : n / 2 + 1 = (n + 2) / 2 := by omega

/-! ## A direction of a step -/

theorem half_wp (c : Dev nD) (d : Bool) (n : ℕ) (hn : n ≤ 29) (X : CellTallies nD τ sig ℕ) (hX : Above X (2 * n + 3)) (P : PR F) (Q : PUnit → sProp 𝕄) :
    iprop(ctx V K ∗ St (F := F) c d n ∗ Owes c (owedD c d n + X))
      ⊢ iprop(((St (F := F) c d (n + 1) ∗ Owes c (owedD c d (n + 1) + X)) -∗ WP c P Q)
        -∗ WP c (half (lane d) (src d c) (dst d c) n (pd V d c (n + 1)) P) Q) := by
  have e₁ : owedD c d n + X = (owedR c d (n + 1) + owedC c d (n + 1) + X) + tallyAt (cell (src d c) (cK d n)) (2 * n + 5) 1 := by
    unfold owedD; rw [owedC_succ c d n (by omega)]; ac_rfl
  have e₂ : owedR c d (n + 1) + owedC c d (n + 1) + X = (owedD c d (n + 1) + X) + tallyAt (cell (dst d c) (rK d (n + 1))) (2 * (n + 1) + 2) NS := by
    unfold owedD; rw [owedR_succ c d (n + 1) (by omega)]; ac_rfl
  have hO : Above (owedR c d (n + 1) + owedC c d (n + 1) + X) (2 * n + 3) :=
    ((owedR_above c d (n + 1) _ (by omega)).add (owedC_above c d (n + 1) _ (by omega))).add hX
  unfold St half
  rw [e₁, Takes_succ c d n (by omega), Gives_succ c d (n + 1) (by omega)]
  iintro ⟨#Hctx, ⟨Hr, Hr', Hfl, Hot, ⟨Htk, Htks⟩, ⟨Hgv, Hgvs⟩, Hkept⟩, HO⟩ Hk
  iapply (take_wp V K c d n (by omega) _ (hO.mono (by omega))) $$ [Hr Htk HO]
  · isplitr; · iexact Hctx
    isplitl [Htk]; · iexact Htk
    isplitl [HO]; · iexact HO
    iexact Hr
  iintro %r %hr ⟨HO, Hr, Hcarry, Hkr⟩
  ihave Hc2 := (carry_split c d n (by omega)) $$ Hcarry
  icases Hc2 with ⟨Hkm, Hcarry⟩
  have hv : acc (pd V d c (n + 1)) r = val V d (n + 1) c := by unfold acc; rw [hr]; rfl
  rw [hv]
  ihave Hr := (Entails.of_eq (show atPos ER (cell c (rK d n)) (n / 2 + 1) ∅ 0 = atPos ER (cell c (rK d (n + 1 + 1))) ((n + 1 + 1) / 2) ∅ 0 by
    rw [half_two, rK_two])) $$ Hr
  cases n with
  | zero =>
    unfold Other
    icases Hot with ⟨Hrd, Hsb⟩
    simp only [onlyIf, Nat.ble, cond_false]
    iapply (fill_wp c (lane d) (par (0 + 1)) (val V d (0 + 1) c)) $$ [Hsb]
    · iexact Hsb
    iintro Hsb
    iapply (give_wp V K c d (0 + 1) (by omega) (owedD c d (0 + 1) + X)) $$ [Hsb Hrd Hgv Hcarry HO]
    · isplitr; · iexact Hctx
      isplitl [Hsb]; · iexact Hsb
      isplitl [Hrd]; · iexact Hrd
      isplitl [Hgv]; · iexact Hgv
      isplitl [Hcarry]; · iexact Hcarry
      iapply (Entails.of_eq (congrArg (Owes (F := F) c) e₂)); iexact HO
    iintro ⟨Hfl', HO⟩
    iapply Hk
    isplitr [HO]
    · isplitl [Hr']; · iexact Hr'
      isplitl [Hr]; · iexact Hr
      isplitl [Hfl']; · iexact Hfl'
      isplitl [Hfl]; · iexact Hfl
      isplitl [Htks]; · iexact Htks
      isplitl [Hgvs]; · iexact Hgvs
      iapply (Kept_succ c d _ (by omega))
      isplitl [Hkm Hkr]
      · isplitl [Hkm]; · iexact Hkm
        iexact Hkr
      iexact Hkept
    iexact HO
  | succ k =>
    unfold Other
    have hpar : par (k + 1 + 1) = par k := par_add_two k
    have hdiv : (k + 1 + 1) / 2 = k / 2 + 1 := by omega
    have hbk : iprop(atPos ER (cell c (sK d k)) (k / 2 + 1) ∅ 0 ∗ atPos ER (cell c (cK d k)) (k / 2 + 1) ∅ 0 ∗ reached ER (cell c (sK d k)) (k / 2 + 1)
        ∗ reached ER (cell c (cK d k)) (k / 2 + 1) ∗ credPay (F := F) c d k) ⊢ Ready (F := F) c d (k + 1 + 1) := by
      unfold Ready credPay backPay
      rw [if_pos (by omega), hdiv, sK_two, cK_two, rK_two]
      unfold rbS
      rw [hpar]
      iintro ⟨H1, H2, H3, H4, H5, H6⟩
      isplitl [H1]; · iexact H1
      isplitl [H2]; · iexact H2
      isplitl [H3]; · iexact H3
      isplitl [H4]; · iexact H4
      isplitl [H6]; · iexact H6
      iexact H5
    have hst := sent_wp V K c d k (by omega) (owedR c d (k + 1 + 1) + owedC c d (k + 1 + 1) + X) (hO.mono (by omega))
    have hcr := credit_wp V K c d k (by omega) (owedR c d (k + 1 + 1) + owedC c d (k + 1 + 1) + X) (hO.mono (by omega))
    have hfi := fill_wp c (lane d) (par k) (val V d (k + 1 + 1) c)
    have hgv := give_wp V K c d (k + 1 + 1) (by omega) (owedD c d (k + 1 + 1) + X)
    unfold sbS at hst hgv
    rw [hpar] at hgv
    have hprog : (onlyIf (Nat.ble 1 (k + 1)) (waitSlot (dsem (lane d).sS (par (k + 1 + 1))) (lane d).rb (lane d).sb (par (k + 1 + 1))) <|
        fill (lane d) (par (k + 1 + 1)) (val V d (k + 1 + 1) c) <|
        onlyIf (Nat.ble 1 (k + 1)) (wait1 (rsem (lane d).cS (par (k + 1 + 1))) 1#32) <| send (lane d) (par (k + 1 + 1)) (dst d c) P)
        = (waitSlot (dsem (lane d).sS (par k)) (lane d).rb (lane d).sb (par k) <| fill (lane d) (par k) (val V d (k + 1 + 1) c) <|
          wait1 (rsem (lane d).cS (par k)) 1#32 <| send (lane d) (par k) (dst d c) P) := by
      simp only [onlyIf, show Nat.ble 1 (k + 1) = true from Nat.ble_eq.mpr (by omega), cond_true]
      rw [hpar]
    iapply (Entails.of_eq (congrArg (fun P => WP c P Q) hprog.symm))
    ihave Hot := (Entails.of_eq (show Flight (F := F) c d k = iprop(atPos ER (cell c (sK d k)) (k / 2) ∅ 0 ∗ atPos ER (cell c (cK d k)) (k / 2) ∅ 0
      ∗ cred (tallyAt (cell c (sK d k)) 0 NS) ∗ cred (tallyAt (cell c (cK d k)) (2 * k + 5) 1)) from rfl)) $$ Hot
    icases Hot with ⟨Has, Hac, Hcs, Hcc⟩
    iapply hst $$ [Hcs HO Has]
    · isplitr; · iexact Hctx
      isplitl [Hcs]; · iexact Hcs
      isplitl [HO]; · iexact HO
      iexact Has
    iintro ⟨HO, Has, Hrs, Hsb⟩
    iapply hfi $$ [Hsb]
    · iexact Hsb
    iintro Hsb
    iapply hcr $$ [Hcc HO Hac]
    · isplitr; · iexact Hctx
      isplitl [Hcc]; · iexact Hcc
      isplitl [HO]; · iexact HO
      iexact Hac
    iintro ⟨HO, Hac, Hrc, Hcp⟩
    ihave Hrd := hbk $$ [Has Hac Hrs Hrc Hcp]
    · isplitl [Has]; · iexact Has
      isplitl [Hac]; · iexact Hac
      isplitl [Hrs]; · iexact Hrs
      isplitl [Hrc]; · iexact Hrc
      iexact Hcp
    iapply hgv $$ [Hsb Hrd Hgv Hcarry HO]
    · isplitr; · iexact Hctx
      isplitl [Hsb]; · iexact Hsb
      isplitl [Hrd]; · iexact Hrd
      isplitl [Hgv]; · iexact Hgv
      isplitl [Hcarry]; · iexact Hcarry
      iapply (Entails.of_eq (congrArg (Owes (F := F) c) e₂)); iexact HO
    iintro ⟨Hfl', HO⟩
    iapply Hk
    isplitr [HO]
    · isplitl [Hr']; · iexact Hr'
      isplitl [Hr]; · iexact Hr
      isplitl [Hfl']; · iexact Hfl'
      isplitl [Hfl]; · iexact Hfl
      isplitl [Htks]; · iexact Htks
      isplitl [Hgvs]; · iexact Hgvs
      iapply (Kept_succ c d _ (by omega))
      isplitl [Hkm Hkr]
      · isplitl [Hkm]; · iexact Hkm
        iexact Hkr
      iexact Hkept
    iexact HO

end Cert.KernelIdeal.Ring

end
-- ==== Proof.Ideal.Around.lean ====
/- All the steps round the ring together, with the barrier before them and the drain behind. -/
module

public import proofs.«01_k».proof.Proof.Ideal.Mids

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Ops F) (K : Dev nD × Kd → ℕ)

/-! ## Whole buffers -/

/-- A buffer of device `c`, whole, at contents `f`. -/
def Full (c : Dev nD) {sh : Shape} (M : Memref sig .tc .vmem sh .f32) (f : M.view.ty.Contents (Elt F)) : sProp 𝕄 :=
  (M.view.loc (c : Thread nD τ) ↦[Finset.univ]{fullShare} f)

theorem load_wp (c : Dev nD) {sh : Shape} (M : Memref sig .tc .vmem sh .f32) (r : Rect sh) {hl : M.view.LoadsAt r.toLoadRect} (f : M.view.ty.Contents (Elt F))
    (P : (r.shape.Idx → Elt F .f32) → PR F) (Q : PUnit → sProp 𝕄) :
    Full c M f ⊢ iprop((Full c M f -∗ WP c (P ((M.access r).read (Elt F) f)) Q) -∗ WP c (.op (.load M r.toLoadRect hl) P) Q) :=
  wp_load_rect 𝒱₀ (c : Thread nD τ) none Set.univ (m := M) (r := r) (S := Finset.univ) (f := f) (Finset.subset_univ _)

theorem store_wp (c : Dev nD) {sh : Shape} (M : Memref sig .tc .vmem sh .f32) (r : Rect sh) {w : r.shape.Idx → Elt F .f32}
    {hx : (M.access r).Stores Finset.univ} {hm : (Finset.univ : Finset r.shape.Idx) = Finset.univ ∨ ∀ a, r.stride a = 1} (f : M.view.ty.Contents (Elt F))
    (P : PR F) (Q : PUnit → sProp 𝕄) :
    Full c M f ⊢ iprop((Full c M ((M.access r).write (Elt F) f w Finset.univ) -∗ WP c P Q) -∗ WP c (.op (.store M r w Finset.univ hx hm) fun _ => P) Q) :=
  wp_store 𝒱₀ (c : Thread nD τ) none Set.univ (m := M) (r := r) (w := w) (Mk := Finset.univ) (hx := hx) (hm := hm) (k := fun _ => P) (S := Finset.univ) (f := f) (Finset.subset_univ _)

/-! ## The operands -/

/-- A device's two operands in their buffers. -/
def Opnds (c : Dev nD) : sProp 𝕄 :=
  iprop(Full c xM (V.x c) ∗ Full c wM (V.w c))

theorem pd_false (c : Dev nD) (s : ℕ) (h : s < 32) :
    pd V false c s = part ((xM.access (rectA c s h)).read (Elt F) (V.x c)) ((wM.access (colR false)).read (Elt F) (V.w c)) := dif_pos h
theorem pd_true (c : Dev nD) (s : ℕ) (h : s < 32) :
    pd V true c s = part ((xM.access (rectB c s h)).read (Elt F) (V.x c)) ((wM.access (colR true)).read (Elt F) (V.w c)) := dif_pos h
theorem Other_zero (c : Dev nD) (d : Bool) : Other (F := F) c d 0 = iprop(Ready (F := F) c d 1 ∗ anyAt (F := F) c (sbS d 1)) := rfl
theorem Other_succ (c : Dev nD) (d : Bool) (n : ℕ) : Other (F := F) c d (n + 1) = Flight (F := F) c d n := rfl

theorem loads_wp (c : Dev nD) (s : ℕ) (h : s < 32) (P : FVec F S128x4096 .f32 → FVec F S128x4096 .f32 → PR F) (Q : PUnit → sProp 𝕄) :
    Opnds V c ⊢ iprop((Opnds V c -∗ WP c (P (pd V false c s) (pd V true c s)) Q) -∗ WP c (loads xM wM c s h P) Q) := by
  have e : P (pd V false c s) (pd V true c s) = P (part ((xM.access (rectA c s h)).read (Elt F) (V.x c)) ((wM.access (colR false)).read (Elt F) (V.w c)))
      (part ((xM.access (rectB c s h)).read (Elt F) (V.x c)) ((wM.access (colR true)).read (Elt F) (V.w c))) := by
    rw [pd_false V c s h, pd_true V c s h]
  rw [e]
  unfold Opnds loads
  iintro ⟨Hx, Hw⟩ Hk
  iapply (load_wp c xM (rectA c s h) (V.x c)) $$ [Hx]
  · iexact Hx
  iintro Hx
  iapply (load_wp c wM (colR false) (V.w c)) $$ [Hw]
  · iexact Hw
  iintro Hw
  iapply (load_wp c xM (rectB c s h) (V.x c)) $$ [Hx]
  · iexact Hx
  iintro Hx
  iapply (load_wp c wM (colR true) (V.w c)) $$ [Hw]
  · iexact Hw
  iintro Hw
  iapply Hk
  isplitl [Hx]; · iexact Hx
  iexact Hw

/-! ## The steps between -/

/-- What a device owes when both directions are to take message `n`. -/
def owedN (c : Dev nD) (n : ℕ) : CellTallies nD τ sig ℕ := owedD c false n + (owedD c true n + owedM c 0)

theorem mids_wp (c : Dev nD) (P : PR F) (Q : PUnit → sProp 𝕄) : ∀ (n s : ℕ) (h : s + n = 30),
    iprop(ctx V K ∗ Opnds V c ∗ St (F := F) c false s ∗ St (F := F) c true s ∗ Owes c (owedN c s))
      ⊢ iprop(((Opnds V c ∗ St (F := F) c false 30 ∗ St (F := F) c true 30 ∗ Owes c (owedN c 30)) -∗ WP c P Q) -∗ WP c (mids args c n s h P) Q)
  | 0, s, h => by
    obtain rfl : s = 30 := h
    iintro ⟨-, Hop, H0, H1, HO⟩ Hk
    iapply Hk
    isplitl [Hop]; · iexact Hop
    isplitl [H0]; · iexact H0
    isplitl [H1]; · iexact H1
    iexact HO
  | n + 1, s, h => by
    have ih := mids_wp c P Q n (s + 1) (by omega)
    have em : mids args c (n + 1) s h P = loads xM wM c (s + 1) (by omega) fun p q =>
      half (lane false) (src false c) (dst false c) s p <| half (lane true) (src true c) (dst true c) s q <| mids args c n (s + 1) (by omega) P := rfl
    have hM := owedM_above c 0
    have h0 := half_wp V K c false s (by omega) (owedD c true s + owedM c 0) ((owedD_above c true s _ (by omega)).add (hM _ (by omega)))
    have h1 := half_wp V K c true s (by omega) (owedD c false (s + 1) + owedM c 0) ((owedD_above c false (s + 1) _ (by omega)).add (hM _ (by omega)))
    have e1 : owedD c false (s + 1) + (owedD c true s + owedM c 0) = owedD c true s + (owedD c false (s + 1) + owedM c 0) := by ac_rfl
    have e2 : owedD c true (s + 1) + (owedD c false (s + 1) + owedM c 0) = owedN c (s + 1) := by unfold owedN; exact add_left_comm _ _ _
    rw [em]
    iintro ⟨#Hctx, Hop, H0, H1, HO⟩ Hk
    iapply (loads_wp V c (s + 1) _) $$ Hop
    iintro Hop
    iapply h0 $$ [H0 HO]
    · isplitr; · iexact Hctx
      isplitl [H0]; · iexact H0
      iexact HO
    iintro ⟨H0, HO⟩
    iapply h1 $$ [H1 HO]
    · isplitr; · iexact Hctx
      isplitl [H1]; · iexact H1
      iapply (Entails.of_eq (congrArg (Owes (F := F) c) e1)); iexact HO
    iintro ⟨H1, HO⟩
    iapply ih $$ [Hop H0 H1 HO]
    · isplitr; · iexact Hctx
      isplitl [Hop]; · iexact Hop
      isplitl [H0]; · iexact H0
      isplitl [H1]; · iexact H1
      iapply (Entails.of_eq (congrArg (Owes (F := F) c) e2)); iexact HO
    iexact Hk

/-! ## The first step -/

/-- A direction after the barrier, before its first message. -/
def Begin (c : Dev nD) (d : Bool) : sProp 𝕄 :=
  iprop(atPos ER (cell c (rK d 0)) 0 ∅ 0 ∗ atPos ER (cell c (rK d 1)) 0 ∅ 0
    ∗ (Ready (F := F) c d 0 ∗ anyAt (F := F) c (sbS d 0)) ∗ (Ready (F := F) c d 1 ∗ anyAt (F := F) c (sbS d 1))
    ∗ Takes (F := F) c d 0 ∗ Gives (F := F) c d 0 ∗ carry (F := F) d (dst d c) 0)

theorem begin_wp (c : Dev nD) (d : Bool) (X : CellTallies nD τ sig ℕ) (P : PR F) (Q : PUnit → sProp 𝕄) :
    iprop(ctx V K ∗ Begin (F := F) c d ∗ Owes c (owedR c d 0 + owedC c d 0 + X))
      ⊢ iprop(((St (F := F) c d 0 ∗ Owes c (owedD c d 0 + X)) -∗ WP c P Q)
        -∗ WP c (fill (lane d) (par 0) (pd V d c 0) <| send (lane d) (par 0) (dst d c) P) Q) := by
  have e : owedR c d 0 + owedC c d 0 + X = (owedD c d 0 + X) + tallyAt (cell (dst d c) (rK d 0)) (2 * 0 + 2) NS := by
    unfold owedD; rw [owedR_succ c d 0 (by omega)]; ac_rfl
  have hk : (⊢ Kept (F := F) c d 0) := Kept_zero c d
  unfold Begin St
  rw [e, Gives_succ c d 0 (by omega), Other_zero]
  iintro ⟨#Hctx, ⟨Hr, Hr', ⟨Hrd, Hsb⟩, Hrd', Htk, ⟨Hgv, Hgvs⟩, Hcarry⟩, HO⟩ Hk
  iapply (fill_wp c (lane d) (par 0) (val V d 0 c)) $$ Hsb
  iintro Hsb
  iapply (give_wp V K c d 0 (by omega) (owedD c d 0 + X)) $$ [Hsb Hrd Hgv Hcarry HO]
  · isplitr; · iexact Hctx
    isplitl [Hsb]; · iexact Hsb
    isplitl [Hrd]; · iexact Hrd
    isplitl [Hgv]; · iexact Hgv
    isplitl [Hcarry]; · iexact Hcarry
    iexact HO
  iintro ⟨Hfl, HO⟩
  iapply Hk
  isplitr [HO]
  · isplitl [Hr]; · iexact Hr
    isplitl [Hr']; · iexact Hr'
    isplitl [Hfl]; · iexact Hfl
    isplitl [Hrd']; · iexact Hrd'
    isplitl [Htk]; · iexact Htk
    isplitl [Hgvs]; · iexact Hgvs
    iapply hk
  iexact HO

/-! ## The last step -/

/-- The result's buffer at some contents. -/
def OutAt (c : Dev nD) (f : (cc0_stg2_0 : Ref sig .tc).ty.Contents (Elt F)) : sProp 𝕄 := Full c oM f

/-- A direction whose last message has been taken. -/
def Ended (c : Dev nD) (d : Bool) : sProp 𝕄 :=
  iprop(atPos ER (cell c (rK d 30)) 16 ∅ 0 ∗ atPos ER (cell c (rK d 31)) 15 ∅ 0
    ∗ Flight (F := F) c d 30 ∗ Flight (F := F) c d 29 ∗ Kept (F := F) c d 31)

theorem last_wp (c : Dev nD) (d : Bool) (f : (cc0_stg2_0 : Ref sig .tc).ty.Contents (Elt F)) (X : CellTallies nD τ sig ℕ) (hX : Above X 62) (P : PR F) (Q : PUnit → sProp 𝕄) :
    iprop(ctx V K ∗ St (F := F) c d 30 ∗ OutAt c f ∗ Owes c (owedD c d 30 + X))
      ⊢ iprop(((Ended (F := F) c d ∗ OutAt c ((oM.access (colR d)).write (Elt F) f (val V d 31 c) Finset.univ) ∗ Owes c X) -∗ WP c P Q)
        -∗ WP c (last oM d (lane d) (src d c) (pd V d c 31) P) Q) := by
  have e : owedD c d 30 + X = X + tallyAt (cell (src d c) (cK d 30)) (2 * 30 + 5) 1 := by
    unfold owedD; rw [owedC_succ c d 30 (by omega), owedC_end, owedR_end, zero_add, zero_add, add_comm]
  unfold St Ended last OutAt
  rw [e, Takes_succ c d 30 (by omega), show Other (F := F) c d 30 = Flight (F := F) c d 29 from Other_succ c d 29]
  iintro ⟨#Hctx, ⟨Hr, Hr', Hfl, Hot, ⟨Htk, -⟩, -, Hkept⟩, Ho, HO⟩ Hk
  iapply (take_wp V K c d 30 (by omega) _ (hX.mono (by omega))) $$ [Hr Htk HO]
  · isplitr; · iexact Hctx
    isplitl [Htk]; · iexact Htk
    isplitl [HO]; · iexact HO
    iexact Hr
  iintro %r %hr ⟨HO, Hr, Hcarry, Hkr⟩
  ihave Hc2 := (carry_split c d 30 (by omega)) $$ Hcarry
  icases Hc2 with ⟨Hkm, -⟩
  have hv : acc (pd V d c 31) r = val V d 31 c := by unfold acc; rw [hr]; rfl
  rw [hv]
  iapply (load_wp c oM (colR d) (f)) $$ [Ho]
  · iexact Ho
  iintro Ho
  iapply (store_wp c oM (colR d) f) $$ [Ho]
  · iexact Ho
  iintro Ho
  iapply Hk
  isplitr [Ho HO]
  · isplitl [Hr]; · iexact Hr
    isplitl [Hr']; · iexact Hr'
    isplitl [Hfl]; · iexact Hfl
    isplitl [Hot]; · iexact Hot
    iapply (Kept_succ c d 30 (by omega))
    isplitl [Hkm Hkr]
    · isplitl [Hkm]; · iexact Hkm
      iexact Hkr
    iexact Hkept
  isplitl [Ho]; · iexact Ho
  iexact HO

/-! ## The drain -/

/-- A direction at its end: every cell behind its last round, the sender's slots back, and what was kept. -/
def Done (c : Dev nD) (d : Bool) : sProp 𝕄 :=
  iprop((atPos ER (cell c (rK d 30)) 16 ∅ 0 ∗ atPos ER (cell c (rK d 31)) 15 ∅ 0)
    ∗ (atPos ER (cell c (sK d 30)) 16 ∅ 0 ∗ atPos ER (cell c (sK d 29)) 15 ∅ 0)
    ∗ (atPos ER (cell c (cK d 30)) 16 ∅ 0 ∗ atPos ER (cell c (cK d 29)) 15 ∅ 0)
    ∗ (anyAt (F := F) c (sbS d 30) ∗ anyAt (F := F) c (sbS d 29)) ∗ Kept (F := F) c d 31)

theorem drain_wp (c : Dev nD) (P : PR F) (Q : PUnit → sProp 𝕄) :
    iprop(ctx V K ∗ Ended (F := F) c false ∗ Ended (F := F) c true ∗ Owes c (owedM c 0))
      ⊢ iprop(((Done (F := F) c false ∗ Done (F := F) c true ∗ Owes c (owedM c 0)) -∗ WP c P Q) -∗ WP c (drain args P) Q) := by
  have ed : drain args P = (waitSlot (dsem (lane false).sS (par 30)) (lane false).rb (lane false).sb (par 30) <|
    waitSlot (dsem (lane false).sS (par 29)) (lane false).rb (lane false).sb (par 29) <|
    waitSlot (dsem (lane true).sS (par 30)) (lane true).rb (lane true).sb (par 30) <|
    waitSlot (dsem (lane true).sS (par 29)) (lane true).rb (lane true).sb (par 29) <|
    wait1 (rsem (lane false).cS (par 30)) 1#32 <| wait1 (rsem (lane false).cS (par 29)) 1#32 <|
    wait1 (rsem (lane true).cS (par 30)) 1#32 <| wait1 (rsem (lane true).cS (par 29)) 1#32 P) := rfl
  have hs : ∀ d m, m ≤ 30 → ∀ P, _ := fun d m hm P => sent_wp V K c d m hm (owedM c 0) (owedM_above c 0 0 (by omega)) P Q
  have hc : ∀ d m, m ≤ 30 → ∀ P, _ := fun d m hm P => credit_wp V K c d m hm (owedM c 0) (owedM_above c 0 (2 * m + 5) (by omega)) P Q
  rw [ed]
  unfold Ended Flight Done
  iintro ⟨#Hctx, ⟨Hr, Hr', ⟨As, Ac, Cs, Cc⟩, ⟨As', Ac', Cs', Cc'⟩, Hkp⟩, ⟨Tr, Tr', ⟨Bs, Bc, Ds, Dc⟩, ⟨Bs', Bc', Ds', Dc'⟩, Tkp⟩, HO⟩ Hk
  iapply (hs false 30 (by omega)) $$ [Cs HO As]
  · isplitr; · iexact Hctx
    isplitl [Cs]; · iexact Cs
    isplitl [HO]; · iexact HO
    iexact As
  iintro ⟨HO, As, -, X⟩
  iapply (hs false 29 (by omega)) $$ [Cs' HO As']
  · isplitr; · iexact Hctx
    isplitl [Cs']; · iexact Cs'
    isplitl [HO]; · iexact HO
    iexact As'
  iintro ⟨HO, As', -, X'⟩
  iapply (hs true 30 (by omega)) $$ [Ds HO Bs]
  · isplitr; · iexact Hctx
    isplitl [Ds]; · iexact Ds
    isplitl [HO]; · iexact HO
    iexact Bs
  iintro ⟨HO, Bs, -, Y⟩
  iapply (hs true 29 (by omega)) $$ [Ds' HO Bs']
  · isplitr; · iexact Hctx
    isplitl [Ds']; · iexact Ds'
    isplitl [HO]; · iexact HO
    iexact Bs'
  iintro ⟨HO, Bs', -, Y'⟩
  iapply (hc false 30 (by omega)) $$ [Cc HO Ac]
  · isplitr; · iexact Hctx
    isplitl [Cc]; · iexact Cc
    isplitl [HO]; · iexact HO
    iexact Ac
  iintro ⟨HO, Ac, -, -⟩
  iapply (hc false 29 (by omega)) $$ [Cc' HO Ac']
  · isplitr; · iexact Hctx
    isplitl [Cc']; · iexact Cc'
    isplitl [HO]; · iexact HO
    iexact Ac'
  iintro ⟨HO, Ac', -, -⟩
  iapply (hc true 30 (by omega)) $$ [Dc HO Bc]
  · isplitr; · iexact Hctx
    isplitl [Dc]; · iexact Dc
    isplitl [HO]; · iexact HO
    iexact Bc
  iintro ⟨HO, Bc, -, -⟩
  iapply (hc true 29 (by omega)) $$ [Dc' HO Bc']
  · isplitr; · iexact Hctx
    isplitl [Dc']; · iexact Dc'
    isplitl [HO]; · iexact HO
    iexact Bc'
  iintro ⟨HO, Bc', -, -⟩
  iapply Hk
  isplitl [Hr Hr' As As' Ac Ac' X X' Hkp]
  · isplitl [Hr Hr']
    · isplitl [Hr]; · iexact Hr
      iexact Hr'
    isplitl [As As']
    · isplitl [As]; · iexact As
      iexact As'
    isplitl [Ac Ac']
    · isplitl [Ac]; · iexact Ac
      iexact Ac'
    isplitl [X X']
    · isplitl [X]; · iexact X
      iexact X'
    iexact Hkp
  isplitl [Tr Tr' Bs Bs' Bc Bc' Y Y' Tkp]
  · isplitl [Tr Tr']
    · isplitl [Tr]; · iexact Tr
      iexact Tr'
    isplitl [Bs Bs']
    · isplitl [Bs]; · iexact Bs
      iexact Bs'
    isplitl [Bc Bc']
    · isplitl [Bc]; · iexact Bc
      iexact Bc'
    isplitl [Y Y']
    · isplitl [Y]; · iexact Y
      iexact Y'
    iexact Tkp
  iexact HO

/-! ## All the steps -/

/-- The columns' two halves written over whatever was there. -/
def wrote (c : Dev nD) (f : (cc0_stg2_0 : Ref sig .tc).ty.Contents (Elt F)) : (cc0_stg2_0 : Ref sig .tc).ty.Contents (Elt F) :=
  both f (val V false 31 c) (val V true 31 c)

theorem around_wp (c : Dev nD) (f : (cc0_stg2_0 : Ref sig .tc).ty.Contents (Elt F)) (P : PR F) (Q : PUnit → sProp 𝕄) :
    iprop(ctx V K ∗ Opnds V c ∗ OutAt c f ∗ Begin (F := F) c false ∗ Begin (F := F) c true ∗ Owes c (owed c 0 0 0 0 0))
      ⊢ iprop(((Opnds V c ∗ OutAt c (wrote V c f) ∗ Done (F := F) c false ∗ Done (F := F) c true ∗ Owes c (owedM c 0)) -∗ WP c P Q)
        -∗ WP c (first args c <| mids args c 30 0 rfl <| final args c <| drain args P) Q) := by
  have ef : ∀ P : PR F, first args c P = loads xM wM c 0 (by decide) fun p q =>
    fill (lane false) (par 0) p <| send (lane false) (par 0) (dst false c) <| fill (lane true) (par 0) q <| send (lane true) (par 0) (dst true c) P := fun _ => rfl
  have el : ∀ P : PR F, final args c P = loads xM wM c 31 (by decide) fun p q =>
    last oM false (lane false) (src false c) p <| last oM true (lane true) (src true c) q P := fun _ => rfl
  have e0 : owed c 0 0 0 0 0 = owedR c false 0 + owedC c false 0 + (owedR c true 0 + owedC c true 0 + owedM c 0) := by
    unfold owed; ac_rfl
  have e1 : owedD c false 0 + (owedR c true 0 + owedC c true 0 + owedM c 0) = owedR c true 0 + owedC c true 0 + (owedD c false 0 + owedM c 0) := by ac_rfl
  have e2 : owedD c true 0 + (owedD c false 0 + owedM c 0) = owedN c 0 := by unfold owedN; exact add_left_comm _ _ _
  have hM := owedM_above c 0
  rw [ef, el, e0]
  iintro ⟨#Hctx, Hop, Ho, H0, H1, HO⟩ Hk
  iapply (loads_wp V c 0 _) $$ Hop
  iintro Hop
  iapply (begin_wp V K c false (owedR c true 0 + owedC c true 0 + owedM c 0)) $$ [H0 HO]
  · isplitr; · iexact Hctx
    isplitl [H0]; · iexact H0
    iexact HO
  iintro ⟨H0, HO⟩
  iapply (begin_wp V K c true (owedD c false 0 + owedM c 0)) $$ [H1 HO]
  · isplitr; · iexact Hctx
    isplitl [H1]; · iexact H1
    iapply (Entails.of_eq (congrArg (Owes (F := F) c) e1)); iexact HO
  iintro ⟨H1, HO⟩
  iapply (mids_wp V K c _ Q 30 0 rfl) $$ [Hop H0 H1 HO]
  · isplitr; · iexact Hctx
    isplitl [Hop]; · iexact Hop
    isplitl [H0]; · iexact H0
    isplitl [H1]; · iexact H1
    iapply (Entails.of_eq (congrArg (Owes (F := F) c) e2)); iexact HO
  iintro ⟨Hop, H0, H1, HO⟩
  iapply (loads_wp V c 31 _) $$ Hop
  iintro Hop
  iapply (last_wp V K c false f (owedD c true 30 + owedM c 0) ((owedD_above c true 30 _ (by omega)).add (hM _ (by omega)))) $$ [H0 Ho HO]
  · isplitr; · iexact Hctx
    isplitl [H0]; · iexact H0
    isplitl [Ho]; · iexact Ho
    iexact HO
  iintro ⟨H0, Ho, HO⟩
  iapply (last_wp V K c true _ (owedM c 0) (hM _ (by omega))) $$ [H1 Ho HO]
  · isplitr; · iexact Hctx
    isplitl [H1]; · iexact H1
    isplitl [Ho]; · iexact Ho
    iexact HO
  iintro ⟨H1, Ho, HO⟩
  iapply (drain_wp V K c P Q) $$ [H0 H1 HO]
  · isplitr; · iexact Hctx
    isplitl [H0]; · iexact H0
    isplitl [H1]; · iexact H1
    iexact HO
  iintro ⟨H0, H1, HO⟩
  iapply Hk
  isplitl [Hop]; · iexact Hop
  isplitl [Ho]; · iexact Ho
  isplitl [H0]; · iexact H0
  isplitl [H1]; · iexact H1
  iexact HO

end Cert.KernelIdeal.Ring

end
-- ==== Proof.Ideal.Bufs.lean ====
/- Whole buffers and their parts: the slots of a double buffer, the row blocks of the maxima, and the two halves of the columns. -/
module

public import proofs.«01_k».proof.Proof.Ideal.Around

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Ops F)

/-! ## Slots -/

theorem slots_disjoint (k k' : Fin 2) (h : k ≠ k') : Disjoint (slotR k).set (slotR k').set :=
  Idealize.ShloMosaic.Ring.lead_disjoint (s := S2x128x4096) (NB := 2) 0 1 (fun k => ![k.val, 0, 0]) S1x128x4096.size slot_inb
    (fun k => (Nat.one_mul _).symm) rfl k k' h
theorem slots_cover : Finset.univ.biUnion (fun k : Fin 2 => (slotR k).set) = Finset.univ :=
  Idealize.ShloMosaic.Ring.lead_cover (s := S2x128x4096) (NB := 2) 0 1 (fun k => ![k.val, 0, 0]) S1x128x4096.size slot_inb
    (fun k => (Nat.one_mul _).symm) (fun k a h => by revert k a; decide) rfl (by decide) rfl
theorem rows_disjoint (i i' : Fin 32) (h : i ≠ i') : Disjoint (rowR i).set (rowR i').set :=
  Idealize.ShloMosaic.Ring.lead_disjoint (s := S32x8x128) (NB := 32) 0 1 (fun k => ![k.val, 0, 0]) S1x8x128.size row_inb
    (fun k => (Nat.one_mul _).symm) rfl i i' h
theorem rows_cover : Finset.univ.biUnion (fun i : Fin 32 => (rowR i).set) = Finset.univ :=
  Idealize.ShloMosaic.Ring.lead_cover (s := S32x8x128) (NB := 32) 0 1 (fun k => ![k.val, 0, 0]) S1x8x128.size row_inb
    (fun k => (Nat.one_mul _).symm) (fun k a h => by revert k a; decide) rfl (by decide) rfl

/-- A buffer of device `c`, whole, at some contents. -/
def Some' (c : Dev nD) {sh : Shape} (M : Memref sig .tc .vmem sh .f32) : sProp 𝕄 := iprop(∃ f, Full (F := F) c M f)

/-- The elements of slot `k` in the buffer. -/
def slotJ (M : Memref sig .tc .vmem S2x128x4096 .f32) (k : Fin 2) : Finset M.view.ty.Idx := (slotR k).set.map M.view.emb
theorem slotJ_eq (M : Memref sig .tc .vmem S2x128x4096 .f32) (k : Fin 2) : (slot M k).view.set = slotJ M k := by
  unfold slotJ; rw [View.set_reshape, View.set_slice]
theorem slotJ_disjoint (M : Memref sig .tc .vmem S2x128x4096 .f32) (k k' : Fin 2) (h : k ≠ k') : Disjoint (slotJ M k) (slotJ M k') :=
  (Finset.disjoint_map _).mpr (slots_disjoint k k' h)
theorem slotJ_cover (M : Memref sig .tc .vmem S2x128x4096 .f32) (hM : M.view.set = Finset.univ) : Finset.univ.biUnion (slotJ M) = Finset.univ := by
  have h : Finset.univ.biUnion (slotJ M) = M.view.set := by
    ext j
    simp only [slotJ, Finset.mem_biUnion, Finset.mem_map, Finset.mem_univ, true_and, View.set]
    constructor
    · rintro ⟨k, x, -, hx⟩; exact ⟨x, hx⟩
    · rintro ⟨x, hx⟩
      obtain ⟨k, -, hk⟩ := Finset.mem_biUnion.mp (by rw [slots_cover]; exact Finset.mem_univ x : x ∈ Finset.univ.biUnion (fun k : Fin 2 => (slotR k).set))
      exact ⟨k, x, hk, hx⟩
  rw [h, hM]

theorem anyAt_slot (c : Dev nD) (M : Memref sig .tc .vmem S2x128x4096 .f32) (k : Fin 2) :
    anyAt (F := F) c (slot M k) = iprop(∃ f : Buf (Elt F) (M.view.loc (c : Thread nD τ)), M.view.loc (c : Thread nD τ) ↦[slotJ M k]{fullShare} f) := by
  unfold anyAt; rw [slotJ_eq]

theorem slots_split (c : Dev nD) (M : Memref sig .tc .vmem S2x128x4096 .f32) (hM : M.view.set = Finset.univ) :
    Some' (F := F) c M ⊢ iprop(anyAt (F := F) c (slot M 0) ∗ anyAt (F := F) c (slot M 1)) := by
  rw [anyAt_slot, anyAt_slot]
  exact Idealize.ShloMosaic.Ring.slots2_split (ℓ := M.view.loc (c : Thread nD τ)) (slotJ M) (slotJ_disjoint M) (slotJ_cover M hM) _ _ (fun _ => rfl) (fun _ => rfl)
theorem slots_join (c : Dev nD) (M : Memref sig .tc .vmem S2x128x4096 .f32) (hM : M.view.set = Finset.univ) :
    iprop(anyAt (F := F) c (slot M 0) ∗ anyAt (F := F) c (slot M 1)) ⊢ Some' (F := F) c M := by
  rw [anyAt_slot, anyAt_slot]
  exact Idealize.ShloMosaic.Ring.slots2_join (ℓ := M.view.loc (c : Thread nD τ)) (slotJ M) (slotJ_disjoint M) (slotJ_cover M hM) _ _ (fun _ => rfl) (fun _ => rfl)

theorem lane_sb (d : Bool) : (lane d).sb.view.set = Finset.univ := by cases d <;> exact View.set_whole _
theorem lane_rb (d : Bool) : (lane d).rb.view.set = Finset.univ := by cases d <;> exact View.set_whole _

/-! ## Row blocks -/

theorem row_set (i : Fin 32) : (row mM i).view.set = (rowR i).set := by
  rw [View.set_reshape]; exact View.set_slice_whole _ _

/-- The whole buffer of the maxima is its row blocks. -/
theorem rows_eq (c : Dev nD) (f : mM.view.ty.Contents (Elt F)) :
    Full c mM f = bigSep (Finset.range 32) fun i => (mM.view.loc (c : Thread nD τ) ↦[(rowN i).view.set]{fullShare} f : sProp 𝕄) := by
  have h := Idealize.ShloMosaic.Ring.pointsTo_blocks (Ix := ℕ) (Name := ℕ) (U := UU) (Lvl := ℕ) (ℓ := mM.view.loc (c : Thread nD τ)) (q := fullShare)
    (fun i : Fin 32 => (rowR i).set) rows_disjoint rows_cover f
  refine h.trans ?_
  exact Idealize.ShloMosaic.Ring.bigSep_fin_eq_range 32 _ _ fun t ht => by
    rw [row_set, show (⟨t % 32, Nat.mod_lt _ (by decide)⟩ : Fin 32) = ⟨t, ht⟩ from Fin.ext (Nat.mod_eq_of_lt ht)]

theorem rows_split (c : Dev nD) :
    Some' (F := F) c mM ⊢ iprop(bigSep (Finset.range 31) (fun i => anyAt (F := F) c (rowN i)) ∗ anyAt (F := F) c (rowN 31)) := by
  unfold Some'
  iintro ⟨%f, H⟩
  have hr : ∀ i, (mM.view.loc (c : Thread nD τ) ↦[(rowN i).view.set]{fullShare} f : sProp 𝕄) ⊢ anyAt (F := F) c (rowN i) := fun i => by
    unfold anyAt; iintro H; iexists f; iexact H
  ihave H := (Entails.of_eq (rows_eq c f)) $$ H
  ihave H := (Entails.of_eq (show bigSep (Finset.range 32) (fun i => (mM.view.loc (c : Thread nD τ) ↦[(rowN i).view.set]{fullShare} f : sProp 𝕄))
    = iprop((mM.view.loc (c : Thread nD τ) ↦[(rowN 31).view.set]{fullShare} f) ∗ bigSep (Finset.range 31) (fun i => (mM.view.loc (c : Thread nD τ) ↦[(rowN i).view.set]{fullShare} f : sProp 𝕄)))
    by rw [Finset.range_add_one, bigSep_ins Finset.notMem_range_self])) $$ H
  icases H with ⟨H1, H⟩
  isplitl [H]
  · have hb : bigSep (Finset.range 31) (fun i => (mM.view.loc (c : Thread nD τ) ↦[(rowN i).view.set]{fullShare} f : sProp 𝕄))
      ⊢ bigSep (Finset.range 31) (fun i => anyAt (F := F) c (rowN i)) := BI.bigSep_mono fun i _ => hr i
    iapply hb; iexact H
  unfold anyAt; iexists f; iexact H1

theorem spread_apply (a : F .f32) (y : S8x128.Idx) : sqRow (shapeCast S1x8x128 (broadcast S8x128 a) shapeCasts_S8x128_S1x8x128) y = a := rfl
theorem rowVal_apply (c : Dev nD) (y : S8x128.Idx) : rowVal V c y = amaxS (oVal V c) := by
  unfold rowVal amaxOf; exact spread_apply _ y
theorem row_read (i : Fin 32) (f : mM.view.ty.Contents (Elt F)) (y : S8x128.Idx) :
    (row mM i).view.read (Elt F) f y = f ((rowR i).emb (Shape.reshapeEquiv squeezes_S1x8x128_S8x128.numel_eq y)) := rfl

/-- The device whose maximum row block `i` of device `c` holds in the end. -/
def who (c : Dev nD) (i : ℕ) : Dev nD := if h : i < 31 then bwd ⟨i, h⟩ c else c
/-- All the maxima, as device `c` holds them in the end. -/
def mVal (c : Dev nD) : mM.view.ty.Contents (Elt F) := fun x : S32x8x128.Idx => amaxS (oVal V (who c (x 0).val))

theorem row_emb_zero (i : Fin 32) (z : S1x8x128.Idx) : ((rowR i).emb z 0).val = i.val := by
  have h : ((rowR i).emb z 0).val = i.val + 1 * (z 0).val := rfl
  have : (z 0).val < 1 := (z 0).isLt
  omega
theorem row_mVal (c : Dev nD) (i : ℕ) (hi : i < 32) : (rowN i).view.read (Elt F) (mVal V c) = rowVal V (who c i) := by
  funext y
  rw [row_read, rowVal_apply]
  unfold mVal
  rw [row_emb_zero, show (⟨i % 32, Nat.mod_lt _ (by decide)⟩ : Fin 32).val = i from Nat.mod_eq_of_lt hi]

/-- A row block that reads as its maximum is that part of all the maxima. -/
theorem row_to (c t : Dev nD) (i : ℕ) (q : PosShare TreeShare) (X : S8x128.Idx → Elt F .f32) (g : mM.view.ty.Contents (Elt F))
    (hg : (rowN i).view.read (Elt F) g = X) :
    (owns (t : Thread nD τ) (rowN i) q X : sProp 𝕄) = (mM.view.loc (t : Thread nD τ) ↦[(rowN i).view.set]{q} g) := by
  have h₁ : (owns (t : Thread nD τ) (rowN i) q X : sProp 𝕄) ⊢ (mM.view.loc (t : Thread nD τ) ↦[(rowN i).view.set]{q} g) := by
    unfold owns
    iintro ⟨%f, %hf, H⟩
    have e : ((rowN i).view.loc (t : Thread nD τ) ↦[(rowN i).view.set]{q} f : sProp 𝕄) = (mM.view.loc (t : Thread nD τ) ↦[(rowN i).view.set]{q} g) := by
      refine pointsTo_congr fun j hj => ?_
      obtain ⟨y, -, rfl⟩ := Finset.mem_map.mp hj
      exact congrFun (hf.trans hg.symm) y
    iapply (Entails.of_eq e); iexact H
  have h₂ : (mM.view.loc (t : Thread nD τ) ↦[(rowN i).view.set]{q} g : sProp 𝕄) ⊢ owns (t : Thread nD τ) (rowN i) q X := by
    rw [← hg]; exact owns_intro (t : Thread nD τ) (rowN i) q g
  exact Entails.antisymm h₁ h₂

theorem rows_join (c : Dev nD) :
    iprop(bigSep (Finset.range 31) (fun i => owns (c : Thread nD τ) (rowN i) fullShare (rowVal V (bwd (f31 i) c))) ∗ owns (c : Thread nD τ) (rowN 31) fullShare (rowVal V c))
      ⊢ Full c mM (mVal V c) := by
  have h1 : (owns (c : Thread nD τ) (rowN 31) fullShare (rowVal V c) : sProp 𝕄) = (mM.view.loc (c : Thread nD τ) ↦[(rowN 31).view.set]{fullShare} (mVal V c)) :=
    row_to c c 31 _ _ _ (row_mVal V c 31 (by omega))
  have h2 : bigSep (Finset.range 31) (fun i => (owns (c : Thread nD τ) (rowN i) fullShare (rowVal V (bwd (f31 i) c)) : sProp 𝕄))
      = bigSep (Finset.range 31) (fun i => (mM.view.loc (c : Thread nD τ) ↦[(rowN i).view.set]{fullShare} (mVal V c) : sProp 𝕄)) :=
    BI.bigSep_congr fun i hi => row_to c c i _ _ _ (by
      have hi := Finset.mem_range.mp hi
      rw [row_mVal V c i (by omega)]; unfold who
      rw [dif_pos hi, show (⟨i, hi⟩ : Fin 31) = f31 i from Fin.ext (Nat.mod_eq_of_lt hi).symm])
  have h3 : Full c mM (mVal V c) = iprop((mM.view.loc (c : Thread nD τ) ↦[(rowN 31).view.set]{fullShare} (mVal V c))
      ∗ bigSep (Finset.range 31) (fun i => (mM.view.loc (c : Thread nD τ) ↦[(rowN i).view.set]{fullShare} (mVal V c) : sProp 𝕄))) := by
    rw [rows_eq, Finset.range_add_one (n := 31), bigSep_ins Finset.notMem_range_self]
  rw [h1, h2, h3]
  exact sep_comm

/-! ## The shares of the maximum's source -/

theorem row_share (c : Dev nD) (n : ℕ) :
    (owns (c : Thread nD τ) (rowN 31) (restS n) (rowVal V c) : sProp 𝕄)
      ⊣⊢ iprop(owns (c : Thread nD τ) (rowN 31) (shr n) (rowVal V c) ∗ owns (c : Thread nD τ) (rowN 31) (restS (n + 1)) (rowVal V c)) := by
  have e : ∀ q, (owns (c : Thread nD τ) (rowN 31) q (rowVal V c) : sProp 𝕄) = (mM.view.loc (c : Thread nD τ) ↦[(rowN 31).view.set]{q} (mVal V c)) :=
    fun q => row_to c c 31 q _ _ (row_mVal V c 31 (by omega))
  rw [e, e, e]
  exact pointsTo_share (PosShare.mem_left_op_right (restS n))

theorem row_rejoin (c : Dev nD) : ∀ n : ℕ,
    iprop(owns (c : Thread nD τ) (rowN 31) (restS n) (rowVal V c) ∗ bigSep (Finset.range n) fun i => owns (c : Thread nD τ) (rowN 31) (shr i) (rowVal V c))
      ⊢ (owns (c : Thread nD τ) (rowN 31) fullShare (rowVal V c) : sProp 𝕄)
  | 0 => by iintro ⟨H, -⟩; iexact H
  | n + 1 => by
    have ih := row_rejoin c n
    rw [Finset.range_add_one, bigSep_ins Finset.notMem_range_self]
    iintro ⟨H, Hn, Hs⟩
    iapply ih
    isplitr [Hs]
    · iapply (row_share V c n).2
      isplitl [Hn]; · iexact Hn
      iexact H
    iexact Hs

/-! ## The two halves of the columns -/

theorem col_mem (e : Bool) (x : S128x8192.Idx) (h : if e then 4096 ≤ (x 1).val else (x 1).val < 4096) : ∃ y, (colR e).emb y = x := by
  have hm : x ∈ (colR e).set := by
    refine Rect.mem_set_unit.mpr fun a => ?_
    have h0 : (x 0).val < 128 := (x 0).isLt
    have h1 : (x 1).val < 8192 := (x 1).isLt
    match a with
    | 0 => exact ⟨Nat.zero_le _, by show (x 0).val < 0 + 128; omega⟩
    | 1 => cases e with
      | false => exact ⟨Nat.zero_le _, by show (x 1).val < 0 + 4096; simpa using h⟩
      | true => exact ⟨by simpa using h, by show (x 1).val < 4096 + 4096; omega⟩
  rw [← Rect.map_emb_univ] at hm
  obtain ⟨y, -, hy⟩ := Finset.mem_map.mp hm
  exact ⟨y, hy⟩
theorem col_cases (x : S128x8192.Idx) : (∃ y, (colR false).emb y = x) ∨ ∃ y, (colR true).emb y = x := by
  by_cases h : (x 1).val < 4096
  · exact .inl (col_mem false x (by simpa using h))
  · exact .inr (col_mem true x (by simpa using h))

theorem both_true (f : (cc0_stg2_0 : Ref sig .tc).ty.Contents (Elt F)) (a b : FVec F S128x4096 .f32) (y : S128x4096.Idx) :
    both f a b ((colR true).emb y) = b y :=
  View.write_emb_of_mem (Val := Elt F) (v := oM.access (colR true)) _ b (Finset.mem_univ y)
theorem both_false (f : (cc0_stg2_0 : Ref sig .tc).ty.Contents (Elt F)) (a b : FVec F S128x4096 .f32) (y : S128x4096.Idx) :
    both f a b ((colR false).emb y) = a y := by
  have hn : (colR false).emb y ∉ (oM.access (colR true)).setOn Finset.univ := by
    intro h
    obtain ⟨z, -, hz⟩ := Finset.mem_map.mp h
    have h1 : ((colR true).emb z 1).val = ((colR false).emb y 1).val := congrArg (fun x : S128x8192.Idx => (x 1).val) hz
    have e1 : ((colR true).emb z 1).val = 4096 + 1 * (z 1).val := rfl
    have e2 : ((colR false).emb y 1).val = 0 + 1 * (y 1).val := rfl
    have : (y 1).val < 4096 := (y 1).isLt
    omega
  exact (View.write_of_not_mem (Val := Elt F) (v := oM.access (colR true)) _ b Finset.univ hn).trans
    (View.write_emb_of_mem (Val := Elt F) (v := oM.access (colR false)) f a (Finset.mem_univ y))
theorem wrote_eq (c : Dev nD) (f : (cc0_stg2_0 : Ref sig .tc).ty.Contents (Elt F)) : wrote V c f = oVal V c := by
  funext x
  unfold wrote oVal
  rcases col_cases x with ⟨y, rfl⟩ | ⟨y, rfl⟩
  · rw [both_false, both_false]
  · rw [both_true, both_true]

end Cert.KernelIdeal.Ring

end
-- ==== Proof.Ideal.Maxes.lean ====
/- The exchange of the maxima, and the result. -/
module

public import proofs.«01_k».proof.Proof.Ideal.Bufs

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Ops F) (K : Dev nD × Kd → ℕ)

theorem f31_eq (i : ℕ) (h : i < 31) : f31 i = ⟨i, h⟩ := Fin.ext (Nat.mod_eq_of_lt h)
theorem rowN_eq (i : ℕ) (h : i < 31) : rowN i = row mM (rw31 i h) := by
  show row mM _ = row mM _
  rw [show (⟨i % 32, Nat.mod_lt _ (by decide)⟩ : Fin 32) = rw31 i h from Fin.ext (Nat.mod_eq_of_lt (by omega))]

theorem pay_ms (c : Dev nD) (i : Fin 31) (b : Bool) : (Rd V).payload (cell c (msK i)) 0 b = msPay V c i := payload_cell V c (msK i) 0 b
theorem pay_mr (c : Dev nD) (i : Fin 31) (b : Bool) : (Rd V).payload (cell c (mrK i)) 0 b = mrPay V c i := payload_cell V c (mrK i) 0 b
theorem duties_ms (c : Dev nD) (i : Fin 31) : (Rd V).duties (cell c (msK i)) 0 = {false} := by rw [duties_cell]; rfl
theorem duties_mr (c : Dev nD) (i : Fin 31) : (Rd V).duties (cell c (mrK i)) 0 = {false} := by rw [duties_cell]; rfl

/-! ## Sending the maximum to the others -/

/-- What the `i`-th maximum is sent with. -/
def GiveM (c : Dev nD) (i : ℕ) : sProp 𝕄 :=
  iprop(anyAt (F := F) (fwd (f31 i) c) (rowN i) ∗ dutyTok ER (cell c (msK (f31 i))) 0 false ∗ dutyTok ER (cell (fwd (f31 i) c) (mrK (f31 i))) 0 false)

def SentM (c : Dev nD) (i : ℕ) : sProp 𝕄 := cred (tallyAt (cell c (msK (f31 i))) 0 NM)

theorem mSend_wp (c : Dev nD) (i : ℕ) (h : i < 31) (P : PR F) (Q : PUnit → sProp 𝕄) :
    iprop(ctx V K ∗ owns (c : Thread nD τ) (rowN 31) (restS i) (rowVal V c) ∗ GiveM (F := F) c i ∗ Owes c (owedM c i))
      ⊢ iprop(((owns (c : Thread nD τ) (rowN 31) (restS (i + 1)) (rowVal V c) ∗ SentM (F := F) c i ∗ Owes c (owedM c (i + 1))) -∗ WP c P Q)
        -∗ WP c (.op (.enqueueDma (row mM 31) (.remote (Dev.tc (fwd ⟨i, h⟩ c) : Thread nD τ) (row mM (rw31 i h)) (.dma (msem mSs ⟨i, h⟩)))
          (.dma (msem mRs ⟨i, h⟩)) ((View.wordExact_bits rfl).reshape _ _) ((View.wordExact_bits rfl).reshape _ _) ⟨⟨rfl, Or.inl rfl⟩, trivial⟩) fun _ => P) Q) := by
  have hp₁ : (owns (c : Thread nD τ) (row mM 31) (shr i) (rowVal V c) : sProp 𝕄) ⊢ (Rd V).payload (cell c (msK ⟨i, h⟩)) 0 false := by
    rw [pay_ms]; exact .rfl
  have hp₂ : iprop(owns (fwd ⟨i, h⟩ c : Thread nD τ) (row mM (rw31 i h)) fullShare (rowVal V c) ∗ emp) ⊢ (Rd V).payload (cell (fwd ⟨i, h⟩ c) (mrK ⟨i, h⟩)) 0 false := by
    rw [pay_mr]; unfold mrPay; rw [bwd_fwd]
    show _ ⊢ owns (fwd ⟨i, h⟩ c : Thread nD τ) (rowN i) fullShare (rowVal V c)
    rw [rowN_eq i h]; exact sep_emp_elim
  have hs₁ := ctx_start V K c (msK ⟨i, h⟩)
  have hs₂ := ctx_start V K (fwd ⟨i, h⟩ c) (mrK ⟨i, h⟩)
  have hO := owedM_succ c i h
  have hG : GiveM (F := F) c i = iprop(anyAt (F := F) (fwd ⟨i, h⟩ c) (row mM (rw31 i h)) ∗ dutyTok ER (cell c (msK ⟨i, h⟩)) 0 false
      ∗ dutyTok ER (cell (fwd ⟨i, h⟩ c) (mrK ⟨i, h⟩)) 0 false) := by
    unfold GiveM; rw [f31_eq i h, rowN_eq i h]
  have hS : SentM (F := F) c i = cred (tallyAt (cell c (msK ⟨i, h⟩)) 0 NM) := by unfold SentM; rw [f31_eq i h]
  rw [f31_eq i h] at hO
  rw [hG, hS]
  iintro ⟨#Hctx, Hr, ⟨Ha, Ht₁, Ht₂⟩, HO⟩ Hk
  ihave H2 := (row_share V c i).1 $$ Hr
  icases H2 with ⟨Hn, Hr⟩
  iapply (send_wp V K c (fwd ⟨i, h⟩ c) (msK ⟨i, h⟩) (mrK ⟨i, h⟩) (msem mSs ⟨i, h⟩) (msem mRs ⟨i, h⟩) rfl rfl 0 0 1000 NM (cred_row _)
    (amountK_m _ _) (amountK_m _ _) (mem_ms V c _) (mem_mr V _ _) (owedM c i) (owedM c (i + 1)) hO (shr i) (rowVal V c) (iprop(emp)) hp₁ hp₂)
    $$ [Hn Ha HO Ht₁ Ht₂]
  · isplitr; · iexact Hctx
    isplitl [Hn]; · iexact Hn
    isplitl [Ha]; · iexact Ha
    isplitr; · iempintro
    isplitl [HO]; · iexact HO
    isplitl [Ht₁]; · iexact Ht₁
    isplitr; · iapply hs₁; iexact Hctx
    isplitl [Ht₂]; · iexact Ht₂
    iapply hs₂; iexact Hctx
  iintro ⟨Hc, HO⟩
  iapply Hk
  isplitl [Hr]; · iexact Hr
  isplitl [Hc]; · iexact Hc
  iexact HO

theorem mSends_wp (c : Dev nD) (P : PR F) (Q : PUnit → sProp 𝕄) : ∀ (n i : ℕ) (h : i + n = 31),
    iprop(ctx V K ∗ owns (c : Thread nD τ) (rowN 31) (restS i) (rowVal V c) ∗ bigSep (Finset.Ico i 31) (fun j => GiveM (F := F) c j) ∗ Owes c (owedM c i)
        ∗ bigSep (Finset.range i) fun j => SentM (F := F) c j)
      ⊢ iprop(((owns (c : Thread nD τ) (rowN 31) (restS 31) (rowVal V c) ∗ Owes c (owedM c 31) ∗ bigSep (Finset.range 31) fun j => SentM (F := F) c j) -∗ WP c P Q)
        -∗ WP c (mSends args c n i h P) Q)
  | 0, i, h => by
    obtain rfl : i = 31 := h
    iintro ⟨-, Hr, -, HO, Hs⟩ Hk
    iapply Hk
    isplitl [Hr]; · iexact Hr
    isplitl [HO]; · iexact HO
    iexact Hs
  | n + 1, i, h => by
    have ih := mSends_wp c P Q n (i + 1) (by omega)
    have hi : i < 31 := by omega
    have e : bigSep (Finset.range (i + 1)) (fun j => SentM (F := F) c j) = iprop(SentM (F := F) c i ∗ bigSep (Finset.range i) fun j => SentM (F := F) c j) := by
      rw [Finset.range_add_one, bigSep_ins Finset.notMem_range_self]
    have hm := mSend_wp V K c i hi (mSends args c n (i + 1) (by omega) P) Q
    rw [e] at ih
    rw [Idealize.ShloMosaic.Ring.Ico_eq_insert hi, bigSep_ins (by simp)]
    iintro ⟨#Hctx, Hr, ⟨Hg, Hgs⟩, HO, Hs⟩ Hk
    unfold mSends
    iapply hm $$ [Hr Hg HO]
    · isplitr; · iexact Hctx
      isplitl [Hr]; · iexact Hr
      isplitl [Hg]; · iexact Hg
      iexact HO
    iintro ⟨Hr, Hn, HO⟩
    iapply ih $$ [Hr Hgs HO Hs Hn]
    · isplitr; · iexact Hctx
      isplitl [Hr]; · iexact Hr
      isplitl [Hgs]; · iexact Hgs
      isplitl [HO]; · iexact HO
      isplitl [Hn]; · iexact Hn
      iexact Hs
    iexact Hk

/-! ## Waiting for what was sent and for what has come -/

/-- Before and after the wait for the `i`-th of its own transfers, and for the `i`-th of the others'. -/
def DoneM₀ (c : Dev nD) (i : ℕ) : sProp 𝕄 := iprop(SentM (F := F) c i ∗ atPos ER (cell c (msK (f31 i))) 0 ∅ 0)
def DoneM₁ (c : Dev nD) (i : ℕ) : sProp 𝕄 := iprop(owns (c : Thread nD τ) (rowN 31) (shr i) (rowVal V c) ∗ atPos ER (cell c (msK (f31 i))) 1 ∅ 0)
def TakeM₀ (c : Dev nD) (i : ℕ) : sProp 𝕄 := iprop(cred (tallyAt (cell c (mrK (f31 i))) 1000 NM) ∗ atPos ER (cell c (mrK (f31 i))) 0 ∅ 0)
def TakeM₁ (c : Dev nD) (i : ℕ) : sProp 𝕄 := iprop(owns (c : Thread nD τ) (rowN i) fullShare (rowVal V (bwd (f31 i) c)) ∗ atPos ER (cell c (mrK (f31 i))) 1 ∅ 0)

theorem mDone_step (c : Dev nD) (i : ℕ) (h : i < 31) (P : PR F) (Q : PUnit → sProp 𝕄) :
    iprop(ctx V K ∗ DoneM₀ (F := F) c i ∗ Owes c 0)
      ⊢ iprop(((DoneM₁ V c i ∗ Owes c 0) -∗ WP c P Q)
        -∗ WP c (.op (.waitDma2 (msem mSs ⟨i, h⟩) (row mM (rw31 i h)) (row mM 31)
      ((View.wordExact_bits rfl).reshape _ _) ((View.wordExact_bits rfl).reshape _ _)) fun _ => P) Q) := by
  have hw := wait_dma_wp V K c (msK ⟨i, h⟩) (msem mSs ⟨i, h⟩) rfl (A := row mM (rw31 i h)) (B := row mM 31)
    (hA := (View.wordExact_bits rfl).reshape _ _) (hB := (View.wordExact_bits rfl).reshape _ _) 0 0 NM 0 (cred_row 31)
    (expect_ms V c _) (duties_ms V c _) (Above.zero 0) (by omega) P Q
  rw [pay_ms] at hw; unfold msPay at hw
  unfold DoneM₀ DoneM₁ SentM
  rw [f31_eq i h]
  iintro ⟨#Hctx, ⟨Hc, Ha⟩, HO⟩ Hk
  iapply hw $$ [Hc Ha HO]
  · isplitr; · iexact Hctx
    isplitl [Hc]; · iexact Hc
    isplitl [HO]; · iexact HO
    iexact Ha
  iintro ⟨HO, Ha, -, Hp⟩
  iapply Hk
  isplitr [HO]
  · isplitl [Hp]; · iexact Hp
    iexact Ha
  iexact HO

theorem mTake_step (c : Dev nD) (i : ℕ) (h : i < 31) (P : PR F) (Q : PUnit → sProp 𝕄) :
    iprop(ctx V K ∗ TakeM₀ (F := F) c i ∗ Owes c 0)
      ⊢ iprop(((TakeM₁ V c i ∗ Owes c 0) -∗ WP c P Q)
        -∗ WP c (.op (.waitDma2 (msem mRs ⟨i, h⟩) (row mM 31) (row mM (rw31 i h))
      ((View.wordExact_bits rfl).reshape _ _) ((View.wordExact_bits rfl).reshape _ _)) fun _ => P) Q) := by
  have hw := wait_dma_wp V K c (mrK ⟨i, h⟩) (msem mRs ⟨i, h⟩) rfl (A := row mM 31) (B := row mM (rw31 i h))
    (hA := (View.wordExact_bits rfl).reshape _ _) (hB := (View.wordExact_bits rfl).reshape _ _) 0 1000 NM 0 (cred_row _)
    (expect_mr V c _) (duties_mr V c _) (Above.zero _) (by omega) P Q
  rw [pay_mr] at hw; unfold mrPay at hw
  unfold TakeM₀ TakeM₁
  rw [f31_eq i h]
  iintro ⟨#Hctx, ⟨Hc, Ha⟩, HO⟩ Hk
  iapply hw $$ [Hc Ha HO]
  · isplitr; · iexact Hctx
    isplitl [Hc]; · iexact Hc
    isplitl [HO]; · iexact HO
    iexact Ha
  iintro ⟨HO, Ha, -, Hp⟩
  iapply Hk
  isplitr [HO]
  · isplitl [Hp]; · iexact Hp
    iexact Ha
  iexact HO

theorem mDone_wp (c : Dev nD) (P : PR F) (Q : PUnit → sProp 𝕄) : ∀ (n i : ℕ) (h : i + n = 31),
    iprop(ctx V K ∗ bigSep (Finset.Ico i 31) (fun j => DoneM₀ (F := F) c j) ∗ Owes c 0 ∗ bigSep (Finset.range i) fun j => DoneM₁ V c j)
      ⊢ iprop(((Owes c 0 ∗ bigSep (Finset.range 31) fun j => DoneM₁ V c j) -∗ WP c P Q) -∗ WP c (mDone args n i h P) Q)
  | 0, i, h => by
    obtain rfl : i = 31 := h
    iintro ⟨-, -, HO, Hs⟩ Hk
    iapply Hk
    isplitl [HO]; · iexact HO
    iexact Hs
  | n + 1, i, h => by
    have ih := mDone_wp c P Q n (i + 1) (by omega)
    have hi : i < 31 := by omega
    have e : bigSep (Finset.range (i + 1)) (fun j => DoneM₁ V c j) = iprop(DoneM₁ V c i ∗ bigSep (Finset.range i) fun j => DoneM₁ V c j) := by
      rw [Finset.range_add_one, bigSep_ins Finset.notMem_range_self]
    have hm := mDone_step V K c i hi (mDone args n (i + 1) (by omega) P) Q
    rw [e] at ih
    rw [Idealize.ShloMosaic.Ring.Ico_eq_insert hi, bigSep_ins (by simp)]
    iintro ⟨#Hctx, ⟨Hg, Hgs⟩, HO, Hs⟩ Hk
    unfold mDone
    iapply hm $$ [Hg HO]
    · isplitr; · iexact Hctx
      isplitl [Hg]; · iexact Hg
      iexact HO
    iintro ⟨Hn, HO⟩
    iapply ih $$ [Hgs HO Hs Hn]
    · isplitr; · iexact Hctx
      isplitl [Hgs]; · iexact Hgs
      isplitl [HO]; · iexact HO
      isplitl [Hn]; · iexact Hn
      iexact Hs
    iexact Hk

theorem mTakes_wp (c : Dev nD) (P : PR F) (Q : PUnit → sProp 𝕄) : ∀ (n i : ℕ) (h : i + n = 31),
    iprop(ctx V K ∗ bigSep (Finset.Ico i 31) (fun j => TakeM₀ (F := F) c j) ∗ Owes c 0 ∗ bigSep (Finset.range i) fun j => TakeM₁ V c j)
      ⊢ iprop(((Owes c 0 ∗ bigSep (Finset.range 31) fun j => TakeM₁ V c j) -∗ WP c P Q) -∗ WP c (mTakes args n i h P) Q)
  | 0, i, h => by
    obtain rfl : i = 31 := h
    iintro ⟨-, -, HO, Hs⟩ Hk
    iapply Hk
    isplitl [HO]; · iexact HO
    iexact Hs
  | n + 1, i, h => by
    have ih := mTakes_wp c P Q n (i + 1) (by omega)
    have hi : i < 31 := by omega
    have e : bigSep (Finset.range (i + 1)) (fun j => TakeM₁ V c j) = iprop(TakeM₁ V c i ∗ bigSep (Finset.range i) fun j => TakeM₁ V c j) := by
      rw [Finset.range_add_one, bigSep_ins Finset.notMem_range_self]
    have hm := mTake_step V K c i hi (mTakes args n (i + 1) (by omega) P) Q
    rw [e] at ih
    rw [Idealize.ShloMosaic.Ring.Ico_eq_insert hi, bigSep_ins (by simp)]
    iintro ⟨#Hctx, ⟨Hg, Hgs⟩, HO, Hs⟩ Hk
    unfold mTakes
    iapply hm $$ [Hg HO]
    · isplitr; · iexact Hctx
      isplitl [Hg]; · iexact Hg
      iexact HO
    iintro ⟨Hn, HO⟩
    iapply ih $$ [Hgs HO Hs Hn]
    · isplitr; · iexact Hctx
      isplitl [Hgs]; · iexact Hgs
      isplitl [HO]; · iexact HO
      isplitl [Hn]; · iexact Hn
      iexact Hs
    iexact Hk

/-! ## The device's own maximum, and the result -/

theorem read_allR (f : (cc0_stg2_0 : Ref sig .tc).ty.Contents (Elt F)) : (oM.access allR).read (Elt F) f = f :=
  Memref.read_access_unit_zero (Elt F) cc0_stg2_0 (by decide) _ f
theorem write_allR (f g : (cc0_stg2_0 : Ref sig .tc).ty.Contents (Elt F)) : (oM.access allR).write (Elt F) f g Finset.univ = g :=
  Memref.write_access_unit_zero_univ (Elt F) cc0_stg2_0 (by decide) _ f g
theorem read_rowsR (f : (cc0_scratch10 : Ref sig .tc).ty.Contents (Elt F)) : (mM.access rowsR).read (Elt F) f = f :=
  Memref.read_access_unit_zero (Elt F) cc0_scratch10 (by decide) _ f

theorem mFill_wp (c : Dev nD) (P : PR F) (Q : PUnit → sProp 𝕄) :
    iprop(OutAt c (oVal V c) ∗ anyAt (F := F) c (rowN 31))
      ⊢ iprop(((OutAt c (oVal V c) ∗ owns (c : Thread nD τ) (rowN 31) fullShare (rowVal V c)) -∗ WP c P Q) -∗ WP c (mFill args P) Q) := by
  unfold OutAt anyAt mFill
  have hv : amaxOf ((oM.access allR).read (Elt F) (oVal V c)) = amaxOf (oVal V c) := by rw [read_allR]
  iintro ⟨Ho, ⟨%f, H⟩⟩ Hk
  iapply (load_wp c oM allR (oVal V c)) $$ Ho
  iintro Ho
  iapply (wp_load_rect 𝒱₀ (c : Thread nD τ) none Set.univ (m := mM) (r := rowR 31) (S := (row mM 31).view.set) (f := f)
    (by rw [View.set_reshape])) $$ [H]
  · iexact H
  iintro H
  iapply (wp_store 𝒱₀ (c : Thread nD τ) none Set.univ (m := mM) (r := rowR 31) (Mk := Finset.univ) (S := (row mM 31).view.set) (f := f)
    (by rw [View.setOn_univ, View.set_reshape])) $$ [H]
  · iexact H
  iintro H
  iapply Hk
  isplitl [Ho]; · iexact Ho
  unfold owns
  iexists ((mM.access (rowR 31)).write (Elt F) f (amaxOf ((oM.access allR).read (Elt F) (oVal V c))) Finset.univ)
  isplitr
  · ipureintro; rw [hv]; exact row_read_write 31 f _
  · iexact H

/-- The result of device `c`. -/
def outVal (c : Dev nD) : (cc0_stg2_0 : Ref sig .tc).ty.Contents (Elt F) := quant (mVal V c) (oVal V c)

theorem result_wp (c : Dev nD) (Q : PUnit → sProp 𝕄) :
    iprop(OutAt c (oVal V c) ∗ Full c mM (mVal V c))
      ⊢ iprop(((OutAt c (outVal V c) ∗ Full c mM (mVal V c)) -∗ WP c (.ret ⟨⟩) Q) -∗ WP c (result args) Q) := by
  have hv : (oM.access allR).write (Elt F) (oVal V c) (quant ((mM.access rowsR).read (Elt F) (mVal V c)) ((oM.access allR).read (Elt F) (oVal V c))) Finset.univ = outVal V c := by
    rw [write_allR, read_allR, read_rowsR]; rfl
  unfold OutAt result
  rw [← hv]
  iintro ⟨Ho, Hm⟩ Hk
  iapply (load_wp c mM rowsR (mVal V c)) $$ Hm
  iintro Hm
  iapply (load_wp c oM allR (oVal V c)) $$ Ho
  iintro Ho
  iapply (load_wp c oM allR (oVal V c)) $$ Ho
  iintro Ho
  iapply (store_wp c oM allR (oVal V c)) $$ Ho
  iintro Ho
  iapply Hk
  isplitl [Ho]; · iexact Ho
  iexact Hm

end Cert.KernelIdeal.Ring

end
-- ==== Proof.Ideal.Body.lean ====
/- The whole body: the barrier, the ring, the maxima, and the cells closed. -/
module

public import proofs.«01_k».proof.Proof.Ideal.Maxes

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Ops F) (K : Dev nD × Kd → ℕ)

/-! ## Index splits -/

theorem bool_split (Φ : Bool → sProp 𝕄) : bigSep Finset.univ Φ = iprop(Φ false ∗ Φ true) :=
  bigSep_univ_eq_bigSepL [false, true] (by decide) (by decide) Φ
theorem three_split (Φ : Fin 3 → sProp 𝕄) : bigSep Finset.univ Φ = iprop(Φ 0 ∗ Φ 1 ∗ Φ 2) := Idealize.ShloMosaic.Ring.bigSep_fin3 Φ

theorem triple_split {X : Type} [Fintype X] (Φ : Fin 3 × Bool × X → sProp 𝕄) : bigSep Finset.univ Φ =
    iprop(((bigSep Finset.univ fun x => Φ (0, false, x)) ∗ (bigSep Finset.univ fun x => Φ (0, true, x)))
      ∗ ((bigSep Finset.univ fun x => Φ (1, false, x)) ∗ (bigSep Finset.univ fun x => Φ (1, true, x)))
      ∗ ((bigSep Finset.univ fun x => Φ (2, false, x)) ∗ (bigSep Finset.univ fun x => Φ (2, true, x)))) := by
  rw [bigSep_univ_prod, three_split, bigSep_univ_prod, bigSep_univ_prod, bigSep_univ_prod, bool_split, bool_split, bool_split]
theorem pair_split {X : Type} [Fintype X] (Φ : Bool × X → sProp 𝕄) : bigSep Finset.univ Φ =
    iprop((bigSep Finset.univ fun x => Φ (false, x)) ∗ (bigSep Finset.univ fun x => Φ (true, x))) := by
  rw [bigSep_univ_prod, bool_split]
theorem sum_split {A B : Type} [Fintype A] [Fintype B] (Φ : A ⊕ B → sProp 𝕄) : bigSep Finset.univ Φ =
    iprop((bigSep Finset.univ fun x => Φ (.inl x)) ∗ (bigSep Finset.univ fun x => Φ (.inr x))) := bigSep_univ_sum Φ
theorem fin31_split (D : Fin 31 → sProp 𝕄) (Ψ : ℕ → sProp 𝕄) (h : ∀ t (ht : t < 31), Ψ t = D ⟨t, ht⟩) : bigSep Finset.univ D = bigSep (Finset.range 31) Ψ :=
  Idealize.ShloMosaic.Ring.bigSep_fin_eq_range 31 D Ψ h

theorem ok_split (Φ : Ok → sProp 𝕄) : bigSep Finset.univ Φ = iprop(
    (((Φ (.inl (0, false, 0)) ∗ Φ (.inl (0, false, 1))) ∗ (Φ (.inl (0, true, 0)) ∗ Φ (.inl (0, true, 1))))
      ∗ ((Φ (.inl (1, false, 0)) ∗ Φ (.inl (1, false, 1))) ∗ (Φ (.inl (1, true, 0)) ∗ Φ (.inl (1, true, 1))))
      ∗ ((Φ (.inl (2, false, 0)) ∗ Φ (.inl (2, false, 1))) ∗ (Φ (.inl (2, true, 0)) ∗ Φ (.inl (2, true, 1)))))
    ∗ ((bigSep (Finset.range 31) fun i => Φ (.inr (false, f31 i))) ∗ (bigSep (Finset.range 31) fun i => Φ (.inr (true, f31 i))))) := by
  rw [sum_split, triple_split, pair_split]
  simp only [Idealize.ShloMosaic.Ring.bigSep_fin2]
  rw [fin31_split (fun x => Φ (.inr (false, x))) (fun i => Φ (.inr (false, f31 i))) fun t ht => by rw [f31_eq t ht],
    fin31_split (fun x => Φ (.inr (true, x))) (fun i => Φ (.inr (true, f31 i))) fun t ht => by rw [f31_eq t ht]]
theorem kd_split (Φ : Kd → sProp 𝕄) : bigSep Finset.univ Φ = iprop(Φ none ∗ bigSep Finset.univ fun o : Ok => Φ (some o)) := by
  refine (bigSep_univ_equiv ((Equiv.sumComm Unit Ok).trans (Equiv.optionEquivSumPUnit Ok).symm) Φ).trans ?_
  rw [sum_split, bigSep_univ_of_subsingleton ()]
  rfl

/-! ## What a device starts from -/

/-- The duties by name: a barrier's two, a message's on its three cells, a maximum's on its two. -/
abbrev Tk : Type := Bool ⊕ ((Fin 3 × Bool × Fin 31) ⊕ (Bool × Fin 31))
def tkK : Tk → Kd
  | .inl _ => none
  | .inr (.inl (a, d, n)) => some (.inl (a, d, par n.val))
  | .inr (.inr (b, i)) => some (.inr (b, i))
def tkR : Tk → ℕ
  | .inr (.inl (_, _, n)) => n.val / 2
  | _ => 0
def tkB : Tk → Bool
  | .inl b => b
  | _ => false
/-- Whose cell a device pays a duty on. -/
def tkE : Tk → (Dev nD ≃ Dev nD)
  | .inl d => srcE d
  | .inr (.inl (0, _, _)) => Equiv.refl _
  | .inr (.inl (1, d, _)) => dstE d
  | .inr (.inl (2, d, _)) => srcE d
  | .inr (.inr (false, _)) => Equiv.refl _
  | .inr (.inr (true, i)) => fwdE i
def payToks (c : Dev nD) : sProp 𝕄 := bigSep Finset.univ fun t : Tk => dutyTok ER (cell (tkE t c) (tkK t)) (tkR t) (tkB t)

/-- The tokens of one direction: of the sending, the receiving and the credit cells. -/
def tokS (c : Dev nD) (d : Bool) : sProp 𝕄 := bigSep (Finset.range 31) fun n => dutyTok ER (cell c (sK d n)) (n / 2) false
def tokR (c : Dev nD) (d : Bool) : sProp 𝕄 := bigSep (Finset.range 31) fun n => dutyTok ER (cell (dst d c) (rK d n)) (n / 2) false
def tokC (c : Dev nD) (d : Bool) : sProp 𝕄 := bigSep (Finset.range 31) fun n => dutyTok ER (cell (src d c) (cK d n)) (n / 2) false
theorem payToks_eq (c : Dev nD) : payToks (F := F) c = iprop(
    (dutyTok ER (cell (prv c) barK) 0 false ∗ dutyTok ER (cell (nxt c) barK) 0 true)
    ∗ ((tokS c false ∗ tokS c true) ∗ (tokR c false ∗ tokR c true) ∗ (tokC c false ∗ tokC c true))
    ∗ ((bigSep (Finset.range 31) fun i => dutyTok ER (cell c (msK (f31 i))) 0 false)
      ∗ (bigSep (Finset.range 31) fun i => dutyTok ER (cell (fwd (f31 i) c) (mrK (f31 i))) 0 false))) := by
  have h3 (a : Fin 3) (d : Bool) (Ψ : ℕ → sProp 𝕄)
      (h : ∀ t (ht : t < 31), Ψ t = (dutyTok ER (cell (tkE (.inr (.inl (a, d, ⟨t, ht⟩))) c) (tkK (.inr (.inl (a, d, ⟨t, ht⟩))))) (t / 2) false : sProp 𝕄)) :
      bigSep Finset.univ (fun n : Fin 31 => (dutyTok ER (cell (tkE (.inr (.inl (a, d, n))) c) (tkK (.inr (.inl (a, d, n))))) (tkR (.inr (.inl (a, d, n)))) (tkB (.inr (.inl (a, d, n)))) : sProp 𝕄))
        = bigSep (Finset.range 31) Ψ := fin31_split _ Ψ h
  unfold payToks
  rw [sum_split, bool_split, sum_split, triple_split, pair_split]
  rw [h3 0 false (fun n => dutyTok ER (cell c (sK false n)) (n / 2) false) fun _ _ => rfl,
    h3 0 true (fun n => dutyTok ER (cell c (sK true n)) (n / 2) false) fun _ _ => rfl,
    h3 1 false (fun n => dutyTok ER (cell (dst false c) (rK false n)) (n / 2) false) fun _ _ => rfl,
    h3 1 true (fun n => dutyTok ER (cell (dst true c) (rK true n)) (n / 2) false) fun _ _ => rfl,
    h3 2 false (fun n => dutyTok ER (cell (src false c) (cK false n)) (n / 2) false) fun _ _ => rfl,
    h3 2 true (fun n => dutyTok ER (cell (src true c) (cK true n)) (n / 2) false) fun _ _ => rfl]
  rw [fin31_split (fun x : Fin 31 => (dutyTok ER (cell (tkE (.inr (.inr (false, x))) c) (tkK (.inr (.inr (false, x))))) (tkR (.inr (.inr (false, x)))) (tkB (.inr (.inr (false, x)))) : sProp 𝕄))
      (fun i => dutyTok ER (cell c (msK (f31 i))) 0 false) fun t ht => by rw [f31_eq t ht]; rfl,
    fin31_split (fun x : Fin 31 => (dutyTok ER (cell (tkE (.inr (.inr (true, x))) c) (tkK (.inr (.inr (true, x))))) (tkR (.inr (.inr (true, x)))) (tkB (.inr (.inr (true, x)))) : sProp 𝕄))
      (fun i => dutyTok ER (cell (fwd (f31 i) c) (mrK (f31 i))) 0 false) fun t ht => by rw [f31_eq t ht]; rfl]
  rfl

/-- The positions on a device's cells, each at its round. -/
def pos (c : Dev nD) (R : Kd → ℕ) : sProp 𝕄 := bigSep Finset.univ fun k : Kd => atPos ER (cell c k) (R k) ∅ 0
/-- The round at which each cell has done all it has to. -/
def Rend : Kd → ℕ
  | none => 1
  | some (.inl (_, _, k)) => 16 - k.val
  | some (.inr _) => 1
theorem Rend_duties (c : Dev nD) (k : Kd) : ∀ r, Rend k ≤ r → (Rd V).duties (cell c k) r = ∅ := by
  rcases k with _ | ⟨a, d, k⟩ | ⟨b, i⟩
  · exact duties_end_bar V c
  · exact duties_end V c a d k _ (by have := k.isLt; show 30 < 2 * (16 - k.val) + k.val; omega)
  · exact duties_end_m V c b i

/-- The credits of one direction. -/
def credR (c : Dev nD) (d : Bool) : sProp 𝕄 := bigSep (Finset.range 31) fun n => cred (tallyAt (cell c (rK d n)) (2 * n + 2) NS)
def credC (c : Dev nD) (d : Bool) : sProp 𝕄 := bigSep (Finset.range 31) fun n => cred (tallyAt (cell c (cK d n)) (2 * n + 5) 1)
def credM (c : Dev nD) : sProp 𝕄 := bigSep (Finset.range 31) fun i => cred (tallyAt (cell c (mrK (f31 i))) 1000 NM)
def creds (c : Dev nD) : sProp 𝕄 :=
  iprop(cred (tallyAt (cell c barK) 1 2) ∗ (credR c false ∗ credC c false) ∗ (credR c true ∗ credC c true) ∗ credM (F := F) c)

/-- A device's buffers of the kernel, at some contents. -/
def bufs (c : Dev nD) : sProp 𝕄 :=
  iprop(Some' (F := F) c (lane false).sb ∗ Some' (F := F) c (lane false).rb ∗ Some' (F := F) c (lane true).sb ∗ Some' (F := F) c (lane true).rb ∗ Some' (F := F) c mM)

/-! ## The barrier -/

/-- The slots of the device that direction `d` goes to. -/
def Slots (c : Dev nD) (d : Bool) : sProp 𝕄 := iprop(anyAt (F := F) (dst d c) (rbS d 0) ∗ anyAt (F := F) (dst d c) (rbS d 1))

theorem bar_wp (c : Dev nD) (P : PR F) (Q : PUnit → sProp 𝕄) :
    iprop(ctx V K ∗ Owes c (owed0 c) ∗ atPos ER (cell c barK) 0 ∅ 0 ∗ cred (tallyAt (cell c barK) 1 2)
        ∗ (dutyTok ER (cell (prv c) barK) 0 false ∗ dutyTok ER (cell (nxt c) barK) 0 true)
        ∗ Some' (F := F) c (lane false).rb ∗ Some' (F := F) c (lane true).rb)
      ⊢ iprop(((Owes c (owed c 0 0 0 0 0) ∗ atPos ER (cell c barK) 1 ∅ 0 ∗ Slots (F := F) c false ∗ Slots (F := F) c true) -∗ WP c P Q)
        -∗ WP c (sig1 barS (prv c) <| sig1 barS (nxt c) <| wait1 barS 2#32 P) Q) := by
  have hp0 : Some' (F := F) c (lane false).rb ⊢ (Rd V).payload (cell (prv c) barK) 0 false := by
    rw [payload_cell]; show _ ⊢ iprop(anyAt (F := F) (nxt (prv c)) (rbS false 0) ∗ anyAt (F := F) (nxt (prv c)) (rbS false 1))
    rw [nxt_prv]; exact slots_split c _ (lane_rb false)
  have hp1 : Some' (F := F) c (lane true).rb ⊢ (Rd V).payload (cell (nxt c) barK) 0 true := by
    rw [payload_cell]; show _ ⊢ iprop(anyAt (F := F) (prv (nxt c)) (rbS true 0) ∗ anyAt (F := F) (prv (nxt c)) (rbS true 1))
    rw [prv_nxt]; exact slots_split c _ (lane_rb true)
  have hq : bigSep ((Rd V).duties (cell c barK) 0) (fun d => (Rd V).payload (cell c barK) 0 d) = iprop(Slots (F := F) c false ∗ Slots (F := F) c true) := by
    rw [show (Rd V).duties (cell c barK) 0 = Finset.univ from by rw [duties_cell]; rfl, bool_split, payload_cell, payload_cell]; rfl
  have hs0 := ctx_start V K (prv c) barK
  have hs1 := ctx_start V K (nxt c) barK
  have hab : Above (owed c 0 0 0 0 0) 1 := by
    unfold owed
    exact (((owedR_above c _ _ _ (by omega)).add (owedC_above c _ _ _ (by omega))).add
      ((owedR_above c _ _ _ (by omega)).add (owedC_above c _ _ _ (by omega)))).add (owedM_above c _ _ (by omega))
  iintro ⟨#Hctx, HO, Hat, Hcr, ⟨Ht0, Ht1⟩, Hr0, Hr1⟩ Hk
  iapply (sig_wp V K c (prv c) barK barS rfl 0 1 false (owed0 c) (owed c 0 0 0 0 0 + tallyAt (cell (nxt c) barK) 1 1) (mem_bar V _ _) rfl rfl _ Q) $$ [HO Ht0 Hr0]
  · isplitr; · iexact Hctx
    isplitl [HO]; · iexact HO
    isplitl [Ht0]; · iexact Ht0
    isplitl [Hr0]; · iapply hp0; iexact Hr0
    iapply hs0; iexact Hctx
  iintro HO
  iapply (sig_wp V K c (nxt c) barK barS rfl 0 1 true (owed c 0 0 0 0 0 + tallyAt (cell (nxt c) barK) 1 1) (owed c 0 0 0 0 0) (mem_bar V _ _) rfl rfl _ Q) $$ [HO Ht1 Hr1]
  · isplitr; · iexact Hctx
    isplitl [HO]; · iexact HO
    isplitl [Ht1]; · iexact Ht1
    isplitl [Hr1]; · iapply hp1; iexact Hr1
    iapply hs1; iexact Hctx
  iintro HO
  iapply (wait_reg_wp V K c barK barS rfl 2#32 2 (by decide) 0 1 (owed c 0 0 0 0 0) (expect_bar V c) hab (by omega) P Q) $$ [HO Hat Hcr]
  · isplitr; · iexact Hctx
    isplitl [Hcr]; · iexact Hcr
    isplitl [HO]; · iexact HO
    iexact Hat
  iintro ⟨HO, Hat, -, Hp⟩
  ihave Hp := (Entails.of_eq hq) $$ Hp
  icases Hp with ⟨H0, H1⟩
  iapply Hk
  isplitl [HO]; · iexact HO
  isplitl [Hat]; · iexact Hat
  isplitl [H0]; · iexact H0
  iexact H1

/-! ## The two directions, ready -/

/-- A direction's six positions at the start. -/
def pos6 (c : Dev nD) (d : Bool) (a b : ℕ) : sProp 𝕄 :=
  iprop((atPos ER (cell c (sK d 0)) a ∅ 0 ∗ atPos ER (cell c (sK d 1)) b ∅ 0) ∗ (atPos ER (cell c (rK d 0)) a ∅ 0 ∗ atPos ER (cell c (rK d 1)) b ∅ 0)
    ∗ (atPos ER (cell c (cK d 0)) a ∅ 0 ∗ atPos ER (cell c (cK d 1)) b ∅ 0))

theorem pos_eq (c : Dev nD) (R : Kd → ℕ) (a b n m : ℕ) (h0 : R none = n) (h1 : ∀ e d, R (some (.inl (e, d, 0))) = a) (h2 : ∀ e d, R (some (.inl (e, d, 1))) = b)
    (h3 : ∀ x, R (some (.inr x)) = m) :
    pos (F := F) c R ⊣⊢ iprop(atPos ER (cell c barK) n ∅ 0 ∗ pos6 c false a b ∗ pos6 c true a b
      ∗ (bigSep (Finset.range 31) fun i => atPos ER (cell c (msK (f31 i))) m ∅ 0) ∗ (bigSep (Finset.range 31) fun i => atPos ER (cell c (mrK (f31 i))) m ∅ 0)) := by
  unfold pos pos6
  rw [kd_split, ok_split]
  simp only [h0, h1, h2, h3]
  constructor
  · iintro ⟨Hb, ⟨⟨⟨S00, S01⟩, S10, S11⟩, ⟨⟨R00, R01⟩, R10, R11⟩, ⟨C00, C01⟩, C10, C11⟩, Hms, Hmr⟩
    isplitl [Hb]; · iexact Hb
    isplitl [S00 S01 R00 R01 C00 C01]
    · isplitl [S00 S01]
      · isplitl [S00]; · iexact S00
        iexact S01
      isplitl [R00 R01]
      · isplitl [R00]; · iexact R00
        iexact R01
      isplitl [C00]; · iexact C00
      iexact C01
    isplitl [S10 S11 R10 R11 C10 C11]
    · isplitl [S10 S11]
      · isplitl [S10]; · iexact S10
        iexact S11
      isplitl [R10 R11]
      · isplitl [R10]; · iexact R10
        iexact R11
      isplitl [C10]; · iexact C10
      iexact C11
    isplitl [Hms]; · iexact Hms
    iexact Hmr
  · iintro ⟨Hb, ⟨⟨S00, S01⟩, ⟨R00, R01⟩, C00, C01⟩, ⟨⟨S10, S11⟩, ⟨R10, R11⟩, C10, C11⟩, Hms, Hmr⟩
    isplitl [Hb]; · iexact Hb
    isplitr [Hms Hmr]
    · isplitl [S00 S01 S10 S11]
      · isplitl [S00 S01]
        · isplitl [S00]; · iexact S00
          iexact S01
        isplitl [S10]; · iexact S10
        iexact S11
      isplitl [R00 R01 R10 R11]
      · isplitl [R00 R01]
        · isplitl [R00]; · iexact R00
          iexact R01
        isplitl [R10]; · iexact R10
        iexact R11
      isplitl [C00 C01]
      · isplitl [C00]; · iexact C00
        iexact C01
      isplitl [C10]; · iexact C10
      iexact C11
    isplitl [Hms]; · iexact Hms
    iexact Hmr

theorem begin_intro (c : Dev nD) (d : Bool) :
    iprop(ctx V K ∗ pos6 c d 0 0 ∗ (tokS c d ∗ tokR c d ∗ tokC c d) ∗ (credR c d ∗ credC c d)
        ∗ Some' (F := F) c (lane d).sb ∗ Slots (F := F) c d ∗ carry (F := F) d (dst d c) 0) ⊢ Begin (F := F) c d := by
  have hs (n : ℕ) := ctx_start V K c (sK d n)
  have hc (n : ℕ) := ctx_start V K c (cK d n)
  have hr (n : ℕ) := ctx_start V K (dst d c) (rK d n)
  unfold Begin Ready pos6 Slots Takes Gives Take Give tokS tokR tokC credR credC
  rw [bigSep_sep', bigSep_sep', bigSep_sep', ← Finset.range_eq_Ico]
  iintro ⟨#Hctx, ⟨⟨S0, S1⟩, ⟨R0, R1⟩, C0, C1⟩, ⟨TS, TR, TC⟩, ⟨KR, KC⟩, Hsb, ⟨B0, B1⟩, Hcy⟩
  ihave Hsb := (slots_split (F := F) c (lane d).sb (lane_sb d)) $$ Hsb
  icases Hsb with ⟨Q0, Q1⟩
  isplitl [R0]; · iexact R0
  isplitl [R1]; · iexact R1
  isplitl [S0 C0 B0 Q0]
  · isplitr [Q0]
    · isplitl [S0]; · iexact S0
      isplitl [C0]; · iexact C0
      isplitr; · iapply (hs 0); iexact Hctx
      isplitr; · iapply (hc 0); iexact Hctx
      isplitr; · iapply (hr 0); iexact Hctx
      iexact B0
    · iexact Q0
  isplitl [S1 C1 B1 Q1]
  · isplitr [Q1]
    · isplitl [S1]; · iexact S1
      isplitl [C1]; · iexact C1
      isplitr; · iapply (hs 1); iexact Hctx
      isplitr; · iapply (hc 1); iexact Hctx
      isplitr; · iapply (hr 1); iexact Hctx
      iexact B1
    · iexact Q1
  isplitl [KR TC]
  · isplitl [KR]; · iexact KR
    iexact TC
  isplitl [TS TR KC]
  · isplitl [TS]; · iexact TS
    isplitl [TR]; · iexact TR
    iexact KC
  iexact Hcy

theorem carry_true (c : Dev nD) : ⊢ carry (F := F) true c 0 := by unfold carry; exact .rfl
theorem carry_false (c : Dev nD) : carry (F := F) false (nxt c) 0 = bigSep (Finset.range 31) fun i => anyAt (F := F) c (rowN i) := by
  show bigSep (Finset.range 31) (fun i => anyAt (F := F) (org (nxt c) 0) (rowN i)) = _
  rw [org_nxt_zero]

/-! ## What the directions leave -/

theorem keepR_out (c : Dev nD) (d : Bool) : (bigSep (Finset.range 31) fun i => keepR (F := F) c d i) ⊢ Some' (F := F) c (lane d).rb := by
  have h0 : keepR (F := F) c d 30 = anyAt (F := F) c (slot (lane d).rb 0) := rfl
  have h1 : keepR (F := F) c d 29 = anyAt (F := F) c (slot (lane d).rb 1) := rfl
  have hj := slots_join (F := F) c (lane d).rb (lane_rb d)
  rw [Finset.range_add_one, bigSep_ins Finset.notMem_range_self, Finset.range_add_one, bigSep_ins Finset.notMem_range_self, h0, h1]
  iintro ⟨H0, H1, -⟩
  iapply hj
  isplitl [H0]; · iexact H0
  iexact H1

theorem done_out (c : Dev nD) (d : Bool) : Done (F := F) c d ⊢ iprop(pos6 c d 16 15 ∗ Some' (F := F) c (lane d).sb ∗ Some' (F := F) c (lane d).rb
    ∗ bigSep (Finset.range 31) fun i => keepI (F := F) d c i) := by
  have hj : iprop(anyAt (F := F) c (sbS d 30) ∗ anyAt (F := F) c (sbS d 29)) ⊢ Some' (F := F) c (lane d).sb := slots_join (F := F) c (lane d).sb (lane_sb d)
  have hk := keepR_out (F := F) c d
  have e : Finset.Ico (31 - 31) 31 = Finset.range 31 := by rw [Nat.sub_self, ← Finset.range_eq_Ico]
  unfold Done Kept pos6
  rw [e]
  iintro ⟨⟨R0, R1⟩, ⟨S0, S1⟩, ⟨C0, C1⟩, Hsb, HI, HR⟩
  isplitl [S0 S1 R0 R1 C0 C1]
  · isplitl [S0 S1]
    · isplitl [S0]; · iexact S0
      iexact S1
    isplitl [R0 R1]
    · isplitl [R0]; · iexact R0
      iexact R1
    isplitl [C0]; · iexact C0
    iexact C1
  isplitl [Hsb]; · iapply hj; iexact Hsb
  isplitl [HR]; · iapply hk; iexact HR
  iexact HI

/-! ## The maxima, from end to end -/

theorem maxes_wp (c : Dev nD) (Q : PUnit → sProp 𝕄) :
    iprop(ctx V K ∗ OutAt c (oVal V c) ∗ anyAt (F := F) c (rowN 31) ∗ (bigSep (Finset.range 31) fun i => keepI (F := F) false c i)
        ∗ ((bigSep (Finset.range 31) fun i => dutyTok ER (cell c (msK (f31 i))) 0 false)
          ∗ (bigSep (Finset.range 31) fun i => dutyTok ER (cell (fwd (f31 i) c) (mrK (f31 i))) 0 false))
        ∗ (bigSep (Finset.range 31) fun i => atPos ER (cell c (msK (f31 i))) 0 ∅ 0) ∗ (bigSep (Finset.range 31) fun i => atPos ER (cell c (mrK (f31 i))) 0 ∅ 0)
        ∗ credM (F := F) c ∗ Owes c (owedM c 0))
      ⊢ iprop(((OutAt c (outVal V c) ∗ Some' (F := F) c mM ∗ Owes c 0
          ∗ (bigSep (Finset.range 31) fun i => atPos ER (cell c (msK (f31 i))) 1 ∅ 0) ∗ (bigSep (Finset.range 31) fun i => atPos ER (cell c (mrK (f31 i))) 1 ∅ 0)) -∗ WP c (.ret ⟨⟩) Q)
        -∗ WP c (mFill args <| mSends args c 31 0 rfl <| mDone args 31 0 rfl <| mTakes args 31 0 rfl <| result args) Q) := by
  have eG : bigSep (Finset.Ico 0 31) (fun j => GiveM (F := F) c j) = iprop((bigSep (Finset.range 31) fun i => keepI (F := F) false c i)
      ∗ (bigSep (Finset.range 31) fun i => dutyTok ER (cell c (msK (f31 i))) 0 false)
      ∗ (bigSep (Finset.range 31) fun i => dutyTok ER (cell (fwd (f31 i) c) (mrK (f31 i))) 0 false)) := by
    rw [← bigSep_sep', ← bigSep_sep', Finset.range_eq_Ico]; rfl
  have eD : bigSep (Finset.Ico 0 31) (fun j => DoneM₀ (F := F) c j) = iprop((bigSep (Finset.range 31) fun i => SentM (F := F) c i)
      ∗ (bigSep (Finset.range 31) fun i => atPos ER (cell c (msK (f31 i))) 0 ∅ 0)) := by
    rw [← bigSep_sep', Finset.range_eq_Ico]; rfl
  have eD' : bigSep (Finset.range 31) (fun j => DoneM₁ V c j) = iprop((bigSep (Finset.range 31) fun i => owns (c : Thread nD τ) (rowN 31) (shr i) (rowVal V c))
      ∗ (bigSep (Finset.range 31) fun i => atPos ER (cell c (msK (f31 i))) 1 ∅ 0)) := by
    rw [← bigSep_sep']; rfl
  have eT : bigSep (Finset.Ico 0 31) (fun j => TakeM₀ (F := F) c j) = iprop(credM (F := F) c
      ∗ (bigSep (Finset.range 31) fun i => atPos ER (cell c (mrK (f31 i))) 0 ∅ 0)) := by
    unfold credM; rw [← bigSep_sep', Finset.range_eq_Ico]; rfl
  have eT' : bigSep (Finset.range 31) (fun j => TakeM₁ V c j) = iprop((bigSep (Finset.range 31) fun i => owns (c : Thread nD τ) (rowN i) fullShare (rowVal V (bwd (f31 i) c)))
      ∗ (bigSep (Finset.range 31) fun i => atPos ER (cell c (mrK (f31 i))) 1 ∅ 0)) := by
    rw [← bigSep_sep']; rfl
  have e0 {Φ : ℕ → sProp 𝕄} : ⊢ bigSep (Finset.range 0) Φ := by rw [Finset.range_zero, bigSep_empty]; exact .rfl
  have hO := owedM_end c
  iintro ⟨#Hctx, Ho, Hrow, HI, ⟨Ts, Tr⟩, Ps, Pr, KM, HO⟩ Hk
  iapply (mFill_wp V c) $$ [Ho Hrow]
  · isplitl [Ho]; · iexact Ho
    iexact Hrow
  iintro ⟨Ho, Hrow⟩
  iapply (mSends_wp V K c _ Q 31 0 rfl) $$ [Hrow HI Ts Tr HO]
  · isplitr; · iexact Hctx
    isplitl [Hrow]; · iexact Hrow
    isplitl [HI Ts Tr]
    · iapply (Entails.of_eq eG.symm)
      isplitl [HI]; · iexact HI
      isplitl [Ts]; · iexact Ts
      iexact Tr
    isplitl [HO]; · iexact HO
    iapply e0
  iintro ⟨Hrow, HO, Hs⟩
  ihave HO := (Entails.of_eq (congrArg (Owes (F := F) c) hO)) $$ HO
  iapply (mDone_wp V K c _ Q 31 0 rfl) $$ [Hs Ps HO]
  · isplitr; · iexact Hctx
    isplitl [Hs Ps]
    · iapply (Entails.of_eq eD.symm)
      isplitl [Hs]; · iexact Hs
      iexact Ps
    isplitl [HO]; · iexact HO
    iapply e0
  iintro ⟨HO, Hd⟩
  ihave Hd := (Entails.of_eq eD') $$ Hd
  icases Hd with ⟨Hsh, Ps⟩
  ihave Hrow := (row_rejoin V c 31) $$ [Hrow Hsh]
  · isplitl [Hrow]; · iexact Hrow
    iexact Hsh
  iapply (mTakes_wp V K c _ Q 31 0 rfl) $$ [KM Pr HO]
  · isplitr; · iexact Hctx
    isplitl [KM Pr]
    · iapply (Entails.of_eq eT.symm)
      isplitl [KM]; · iexact KM
      iexact Pr
    isplitl [HO]; · iexact HO
    iapply e0
  iintro ⟨HO, Hd⟩
  ihave Hd := (Entails.of_eq eT') $$ Hd
  icases Hd with ⟨Hrs, Pr⟩
  ihave Hm := (rows_join V c) $$ [Hrow Hrs]
  · isplitl [Hrs]; · iexact Hrs
    iexact Hrow
  iapply (result_wp V c Q) $$ [Ho Hm]
  · isplitl [Ho]; · iexact Ho
    iexact Hm
  iintro ⟨Ho, Hm⟩
  iapply Hk
  isplitl [Ho]; · iexact Ho
  isplitl [Hm]; · unfold Some'; iexists _; iexact Hm
  isplitl [HO]; · iexact HO
  isplitl [Ps]; · iexact Ps
  iexact Pr

/-! ## Closing -/

theorem close_one (c : Dev nD) (k : Kd) : iprop(ctx V K ∗ atPos ER (cell c k) (Rend k) ∅ 0) ⊢ (|={Set.univ}=> semVal (cell c k) 0 : sProp 𝕄) := by
  have hi := ctx_inv V K c k
  have hc := Rounds.cell_close ER (Rd V) (g := cell c k) (κ := K (c, k)) (Set.mem_univ _) (fun h => h) (R := Rend k) (Rend_duties V c k)
  iintro ⟨#Hctx, Ha⟩
  iapply hc
  isplitr; · iapply hi; iexact Hctx
  iexact Ha

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The counters of all of a device's cells, at zero. -/
def Zero (c : Dev nD) : sProp 𝕄 := bigSep Finset.univ fun k : Kd => semVal (cell c k) 0

theorem close_all (c : Dev nD) : iprop(ctx V K ∗ pos (F := F) c Rend) ⊢ (|={Set.univ}=> Zero c : sProp 𝕄) := by
  have h := with_persistent (S := (Finset.univ : Finset Kd)) (R := ctx V K) (Φ := fun k => atPos ER (cell c k) (Rend k) ∅ 0)
    (Ψ := fun k => iprop(|={Set.univ}=> semVal (cell c k) 0)) fun k _ => close_one V K c k
  exact h.trans (bigSep_fupd _ _)

/-! ## The body -/

/-- What a device's body starts from, besides what all know. -/
def Start (c : Dev nD) : sProp 𝕄 := iprop(pos (F := F) c (fun _ => 0) ∗ payToks (F := F) c ∗ creds (F := F) c)

theorem body_wp (c : Dev nD) (f : (cc0_stg2_0 : Ref sig .tc).ty.Contents (Elt F)) (Q : PUnit → sProp 𝕄) :
    iprop(ctx V K ∗ Start (F := F) c ∗ bufs (F := F) c ∗ Opnds V c ∗ OutAt c f ∗ Owes c (owed0 c))
      ⊢ iprop(((Zero (F := F) c ∗ bufs (F := F) c ∗ Opnds V c ∗ OutAt c (outVal V c) ∗ Owes c 0) -∗ Q ⟨⟩) -∗ WP c (body args) Q) := by
  have p0 := (pos_eq (F := F) c (fun _ => 0) 0 0 0 0 rfl (fun _ _ => rfl) (fun _ _ => rfl) (fun _ => rfl)).1
  have p1 := (pos_eq (F := F) c Rend 16 15 1 1 rfl (fun _ _ => rfl) (fun _ _ => rfl) (fun _ => rfl)).2
  unfold body
  simp only [wp_deviceId]
  unfold Start creds bufs
  iintro ⟨#Hctx, ⟨Hpos, Htok, Kb, ⟨KR0, KC0⟩, ⟨KR1, KC1⟩, KM⟩, ⟨S0, R0, S1, R1, Hm⟩, Hop, Hout, HO⟩ Hk
  ihave Hpos := p0 $$ Hpos
  icases Hpos with ⟨Pb, P0, P1, Ps, Pr⟩
  ihave Htok := (Entails.of_eq (payToks_eq (F := F) c)) $$ Htok
  icases Htok with ⟨Tb, ⟨⟨TS0, TS1⟩, ⟨TR0, TR1⟩, TC0, TC1⟩, Tm⟩
  iapply (bar_wp V K c _ Q) $$ [HO Pb Kb Tb R0 R1]
  · isplitr; · iexact Hctx
    isplitl [HO]; · iexact HO
    isplitl [Pb]; · iexact Pb
    isplitl [Kb]; · iexact Kb
    isplitl [Tb]; · iexact Tb
    isplitl [R0]; · iexact R0
    iexact R1
  iintro ⟨HO, Pb, B0, B1⟩
  ihave Hm := (rows_split (F := F) c) $$ Hm
  icases Hm with ⟨Hrows, Hrow⟩
  ihave H0 := (begin_intro V K c false) $$ [P0 TS0 TR0 TC0 KR0 KC0 S0 B0 Hrows]
  · isplitr; · iexact Hctx
    isplitl [P0]; · iexact P0
    isplitl [TS0 TR0 TC0]
    · isplitl [TS0]; · iexact TS0
      isplitl [TR0]; · iexact TR0
      iexact TC0
    isplitl [KR0 KC0]
    · isplitl [KR0]; · iexact KR0
      iexact KC0
    isplitl [S0]; · iexact S0
    isplitl [B0]; · iexact B0
    iapply (Entails.of_eq (carry_false (F := F) c).symm); iexact Hrows
  ihave H1 := (begin_intro V K c true) $$ [P1 TS1 TR1 TC1 KR1 KC1 S1 B1]
  · isplitr; · iexact Hctx
    isplitl [P1]; · iexact P1
    isplitl [TS1 TR1 TC1]
    · isplitl [TS1]; · iexact TS1
      isplitl [TR1]; · iexact TR1
      iexact TC1
    isplitl [KR1 KC1]
    · isplitl [KR1]; · iexact KR1
      iexact KC1
    isplitl [S1]; · iexact S1
    isplitl [B1]; · iexact B1
    iapply (carry_true (F := F) (dst true c))
  iapply (around_wp V K c f _ Q) $$ [Hop Hout H0 H1 HO]
  · isplitr; · iexact Hctx
    isplitl [Hop]; · iexact Hop
    isplitl [Hout]; · iexact Hout
    isplitl [H0]; · iexact H0
    isplitl [H1]; · iexact H1
    iexact HO
  iintro ⟨Hop, Hout, H0, H1, HO⟩
  ihave Hout := (Entails.of_eq (congrArg (OutAt (F := F) c) (wrote_eq V c f))) $$ Hout
  ihave H0 := (done_out (F := F) c false) $$ H0
  icases H0 with ⟨P0, S0, R0, HI⟩
  ihave H1 := (done_out (F := F) c true) $$ H1
  icases H1 with ⟨P1, S1, R1, -⟩
  iapply (maxes_wp V K c Q) $$ [Hout Hrow HI Tm Ps Pr KM HO]
  · isplitr; · iexact Hctx
    isplitl [Hout]; · iexact Hout
    isplitl [Hrow]; · iexact Hrow
    isplitl [HI]; · iexact HI
    isplitl [Tm]; · iexact Tm
    isplitl [Ps]; · iexact Ps
    isplitl [Pr]; · iexact Pr
    isplitl [KM]; · iexact KM
    iexact HO
  iintro ⟨Hout, Hm, HO, Ps, Pr⟩
  ihave Hpos := p1 $$ [Pb P0 P1 Ps Pr]
  · isplitl [Pb]; · iexact Pb
    isplitl [P0]; · iexact P0
    isplitl [P1]; · iexact P1
    isplitl [Ps]; · iexact Ps
    iexact Pr
  imod (close_all V K c) $$ [Hpos] with HZ
  · isplitr; · iexact Hctx
    iexact Hpos
  rw [wp_ret]
  imodintro
  iapply Hk
  isplitl [HZ]; · iexact HZ
  isplitl [S0 R0 S1 R1 Hm]
  · isplitl [S0]; · iexact S0
    isplitl [R0]; · iexact R0
    isplitl [S1]; · iexact S1
    isplitl [R1]; · iexact R1
    iexact Hm
  isplitl [Hop]; · iexact Hop
  isplitl [Hout]; · iexact Hout
  iexact HO

end Cert.KernelIdeal.Ring

end
-- ==== Proof.Ideal.Launch.lean ====
/- The launch: what each device starts from, the body's obligation, and the run of the whole program. -/
module

public import proofs.«01_k».proof.Proof.Ideal.Body
public import proofs.«01_k».proof.Proof.Gen.KernelIdeal.Points
public import Idealize.ShloMosaic.Lib.Pipeline.CollectiveSegs

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg BodyObligation)

variable (m : (ℓ : Loc nD τ sig) → Buf (Elt F) ℓ) (ρ : Dev nD → PrngReg)

/-- The memory at the launch: any contents, the counters at zero, any generator registers. -/
def s₀ : MemSt nD τ sig (Elt F) := ⟨m, fun _ => 0, ρ⟩

/-- What the devices hold of the operands at the launch. -/
def V₀ : Ops F where
  x c := (win0_0.blk (0 : Fin 1)).view.read (Elt F) ((s₀ m ρ).mem ((c : Thread nD τ).loc main_arg0))
  w c := (win0_1.blk (0 : Fin 1)).view.read (Elt F) ((s₀ m ρ).mem ((c : Thread nD τ).loc main_arg1))

/-! ## The proof data -/

def start (c : Dev nD) : sProp 𝕄 := iprop((∃ K, ctx (V₀ m ρ) K) ∗ Start (F := F) c)
def Φ₀ (c : Dev nD) : sProp 𝕄 := iprop(start m ρ c ∗ bufs (F := F) c)
def Φ₁ (c : Dev nD) : sProp 𝕄 := iprop(Zero (F := F) c ∗ bufs (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (V₀ m ρ).x c
    | ⟨1, _⟩ => (V₀ m ρ).w c
    | ⟨2, _⟩ => outVal (V₀ m ρ) c
  Φ t := match t with
    | ⟨0, _⟩ => Φ₀ m ρ c
    | ⟨_ + 1, _⟩ => Φ₁ (F := F) c
  q _ := fullShare
  owed t := match t with
    | ⟨0, _⟩ => owed0 c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body with the buffers it is called with. -/
abbrev prog : PR F :=
  cc0_body (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9
    (Memref.whole cc0_scratch10) (Memref.isWhole_whole _) cc0_scratch11 cc0_scratch12
theorem prog_eq : prog (F := F) = body args := body_eq _ _ _ _ _ _ _ _ _ _ _ _ _ _ _ _ _ _ _ _ _ _ _ _

def bodyPre (c : Dev nD) : sProp 𝕄 :=
  iprop(Φ₀ m ρ c ∗ (dats m ρ 0 c).owesAt (0 : ℕ) t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt (0 : ℕ) t0_0.succ
    ∗ stg c cc0_stg0_0 ((V₀ m ρ).x c) ∗ stg c cc0_stg1_0 ((V₀ m ρ).w c) ∗ stg c cc0_stg2_0 (outVal (V₀ m ρ) c))

theorem before_x (c : Dev nD) (d) : (dats m ρ 0 c).before (0 : Fin 3) t0_0 d = (V₀ m ρ).x c := by
  unfold Dat.before; rw [if_pos (fetch0_0 t0_0)]; rfl
theorem before_w (c : Dev nD) (d) : (dats m ρ 0 c).before (1 : Fin 3) t0_0 d = (V₀ m ρ).w c := by
  unfold Dat.before; rw [if_pos (fetch0_1 t0_0)]; rfl

theorem sound (c : Dev nD) : bodyPre m ρ c ⊢ WP c (prog (F := F)) (fun _ => bodyPost m ρ c) := by
  have h (K) (f) := body_wp (V₀ m ρ) K c f (fun _ => bodyPost m ρ c)
  have ho0 : (dats m ρ 0 c).owesAt (0 : ℕ) t0_0.castSucc ⊢ Owes c (owed0 c) := by
    unfold Dat.owesAt Pipeline.owesWithin Owes
    iintro ⟨%W, %hW, HO⟩; iexists W; iexact HO
  have ho1 : Owes c 0 ⊢ (dats m ρ 0 c).owesAt (0 : ℕ) t0_0.succ := by
    unfold Dat.owesAt Pipeline.owesWithin Owes
    iintro ⟨%W, HO⟩; iexists W
    isplitr; · ipureintro; exact fun _ _ => Or.inl trivial
    iexact HO
  have hx (d) : stg c cc0_stg0_0 ((dats m ρ 0 c).before (0 : Fin 3) t0_0 d) ⊢ Full c xM ((V₀ m ρ).x c) := by
    rw [before_x]; unfold Full; iintro ⟨%f, %hf, H⟩; subst hf; iexact H
  have hw (d) : stg c cc0_stg1_0 ((dats m ρ 0 c).before (1 : Fin 3) t0_0 d) ⊢ Full c wM ((V₀ m ρ).w c) := by
    rw [before_w]; unfold Full; iintro ⟨%f, %hf, H⟩; subst hf; iexact H
  rw [prog_eq]
  unfold bodyPre Φ₀ start
  iintro ⟨⟨⟨⟨%K, #Hctx⟩, Hs⟩, Hb⟩, HO, ⟨%d0, Hx⟩, ⟨%d1, Hw⟩, ⟨%d2, %g, -, Ho⟩⟩
  iapply (h K g) $$ [Hs Hb HO Hx Hw Ho]
  · isplitr; · iexact Hctx
    isplitl [Hs]; · iexact Hs
    isplitl [Hb]; · iexact Hb
    isplitl [Hx Hw]
    · unfold Opnds
      isplitl [Hx]; · iapply (hx d0); iexact Hx
      iapply (hw d1); iexact Hw
    isplitl [Ho]; · unfold OutAt Full; iexact Ho
    iapply ho0; iexact HO
  unfold Opnds OutAt Full
  iintro ⟨HZ, Hb, ⟨Hx, Hw⟩, Ho, HO⟩
  unfold bodyPost Φ₁
  isplitl [HZ Hb]
  · isplitl [HZ]; · iexact HZ
    iexact Hb
  isplitl [HO]; · iapply ho1; iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 100000 in
theorem body_obligation (c : Dev nD) : BodyObligation (dats (F := F) m ρ 0 c) (defs₀ (F := F)) 𝒱₀ (0 : ℕ) Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show bodyPre m ρ c ⊢ WP c (prog (F := F)) (fun _ => bodyPost m ρ c)
  exact sound m ρ c

/-! ## Ghost state at the launch -/

theorem ownSemFacts : Pipeline.OwnSemFacts cfg0.spec osem := by decide
theorem share_eq (c : Dev nD) (w : Fin cfg0.W) : (dats m ρ 0 c).share w = fullShare := by unfold Dat.share; split <;> rfl

def ringCells : Finset (GSem nD τ sig) := Finset.univ.map ⟨kcell, kcell_inj⟩
abbrev tokOf (ct : Dev nD × Tk) : GSem nD τ sig × ℕ × Bool := (cell ct.1 (tkK ct.2), tkR ct.2, tkB ct.2)
theorem tk_inj (t t' : Tk) (hk : tkK t = tkK t') (hr : tkR t = tkR t') (hb : tkB t = tkB t') : t = t' := by
  rcases t with b | ⟨a, d, n⟩ | ⟨b, i⟩ <;> rcases t' with b' | ⟨a', d', n'⟩ | ⟨b', i'⟩ <;> simp only [tkK, reduceCtorEq] at hk
  · rw [show b = b' from hb]
  · have h := Sum.inl.inj (Option.some.inj hk)
    simp only [Prod.mk.injEq] at h
    obtain ⟨rfl, rfl, hn⟩ := h
    have h1 : n.val % 2 = n'.val % 2 := congrArg Fin.val hn
    have h2 : n.val / 2 = n'.val / 2 := hr
    rw [show n = n' from Fin.ext (by omega)]
  · simp at hk
  · simp at hk
  · have h := Sum.inr.inj (Option.some.inj hk)
    rw [h]
theorem tokOf_inj : Function.Injective tokOf := by
  rintro ⟨c, t⟩ ⟨c', t'⟩ h
  have h1 : kcell (c, tkK t) = kcell (c', tkK t') := congrArg (fun x : GSem nD τ sig × ℕ × Bool => x.1) h
  have h2 := kcell_inj h1
  have h3 : c = c' := congrArg Prod.fst h2
  rw [h3, tk_inj t t' (congrArg Prod.snd h2) (congrArg (fun x : GSem nD τ sig × ℕ × Bool => x.2.1) h) (congrArg (fun x : GSem nD τ sig × ℕ × Bool => x.2.2) h)]
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The tokens of the duties on a device's own cells. -/
def ownToks (c : Dev nD) : sProp 𝕄 := bigSep Finset.univ fun t : Tk => dutyTok ER (cell c (tkK t)) (tkR t) (tkB t)
def states (c : Dev nD) : sProp 𝕄 := bigSep Finset.univ fun k : Kd => roundState ER (Rd (V₀ m ρ)) (cell c k) 0
def begun (c : Dev nD) : sProp 𝕄 := bigSep Finset.univ fun k : Kd => reached ER (cell c k) 0
def G (c : Dev nD) : sProp 𝕄 := iprop(states m ρ c ∗ (pos (F := F) c (fun _ => 0) ∗ begun (F := F) c) ∗ ownToks (F := F) c)
def G' (c : Dev nD) : sProp 𝕄 := iprop((∃ K, records (V₀ m ρ) K ∗ starts (F := F)) ∗ pos (F := F) c (fun _ => 0) ∗ payToks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Kd => Φ (cell c k) := by
    unfold ringCells; rw [bigSep_map, bigSep_univ_prod]; rfl
  have hT : bigSep ringToks (fun x => (dutyTok ER x.1 x.2.1 x.2.2 : sProp 𝕄)) = bigSep Finset.univ fun c : Dev nD => ownToks (F := F) c := by
    unfold ringToks ownToks; rw [bigSep_map, bigSep_univ_prod]; rfl
  iintro HX
  imod (Rounds.fund ER (Rd (V₀ m ρ)) ringCells ringToks) $$ HX with ⟨Hst, Hr, Hat, Htok⟩
  imodintro
  ihave Hst' := (Entails.of_eq (hX fun g => roundState ER (Rd (V₀ m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G states pos begun; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (cell c none) 0 := by
  unfold unscopedSems0; rw [bigSep_eq_bigSepL_of_eq [SemLoc.reg barS] (by decide) (by decide)]; rfl
theorem zero_eq (c : Dev nD) : Zero (F := F) c = iprop((unscopedSems0 c : sProp 𝕄) ∗ Pipeline.ownSems0 (Ix := ℕ) (Name := ℕ) (U := UU) (Lvl := ℕ) (Val := Elt F) (τ := τ) osem c) := by
  unfold Zero; rw [kd_split, unscopedSems0_eq]; rfl

/-- The invariants of a device's cells, under some names. -/
def invs (c : Dev nD) : sProp 𝕄 := bigSep Finset.univ fun k : Kd => iprop(∃ κ : ℕ, cellInv ER (Rd (V₀ m ρ)) κ (cell c k))

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop(invs m ρ c ∗ (pos (F := F) c (fun _ => 0) ∗ begun (F := F) c) ∗ ownToks (F := F) c) := by
  have hz := Entails.of_eq (zero_eq (F := F) c).symm
  have hi : iprop(Zero (F := F) c ∗ states m ρ c) ⊢ (|={Set.univ}=> invs m ρ c : sProp 𝕄) := by
    unfold Zero states invs
    rw [← bigSep_sep']
    exact (bigSep_mono fun k _ => (Rounds.body_intro ER (Rd (V₀ m ρ)) (cell c k)).trans inv_alloc).trans (bigSep_fupd _ _)
  unfold G
  iintro ⟨Hos, Hus, Hst, Hat, Htok⟩
  ihave Hv := hz $$ [Hos Hus]
  · isplitl [Hus]; · iexact Hus
    iexact Hos
  imod hi $$ [Hv Hst] with Hinv
  · isplitl [Hv]; · iexact Hv
    iexact Hst
  imodintro
  isplitl [Hinv]; · iexact Hinv
  isplitl [Hat]; · iexact Hat
  iexact Htok

/-- Every duty's token goes to the device that pays it. -/
theorem toks_around : (bigSep Finset.univ fun c : Dev nD => ownToks (F := F) c) ⊢ bigSep Finset.univ fun c : Dev nD => payToks (F := F) c := by
  unfold ownToks payToks
  rw [bigSep_univ_comm, bigSep_univ_comm (fun (c : Dev nD) (t : Tk) => (dutyTok ER (cell (tkE t c) (tkK t)) (tkR t) (tkB t) : sProp 𝕄))]
  exact Entails.of_eq (bigSep_congr fun t _ => bigSep_univ_equiv (tkE t) (fun c : Dev nD => (dutyTok ER (cell c (tkK t)) (tkR t) (tkB t) : sProp 𝕄)))

theorem regroup :
    (bigSep Finset.univ fun c : Dev nD => iprop(invs m ρ c ∗ (pos (F := F) c (fun _ => 0) ∗ begun (F := F) c) ∗ ownToks (F := F) c)) ⊢ bigSep Finset.univ (G' m ρ) := by
  have hI : (bigSep Finset.univ fun c : Dev nD => invs m ρ c) = bigSep Finset.univ fun ck : Dev nD × Kd => iprop(∃ κ : ℕ, cellInv ER (Rd (V₀ m ρ)) κ (kcell ck)) :=
    (bigSep_univ_prod (fun ck : Dev nD × Kd => iprop(∃ κ : ℕ, cellInv ER (Rd (V₀ m ρ)) κ (kcell ck)))).symm
  have hR : (bigSep Finset.univ fun c : Dev nD => begun (F := F) c) = starts (F := F) :=
    (bigSep_univ_prod (fun ck : Dev nD × Kd => (reached ER (kcell ck) 0 : sProp 𝕄))).symm
  have hE := BI.bigSep_exists_pi Finset.univ (fun (ck : Dev nD × Kd) (κ : ℕ) => (cellInv ER (Rd (V₀ m ρ)) κ (kcell ck) : sProp 𝕄))
  have hG (K : Dev nD × Kd → ℕ) := with_persistent (F := F) (S := (Finset.univ : Finset (Dev nD))) (R := iprop(records (V₀ m ρ) K ∗ starts (F := F)))
    (Φ := fun c => iprop(pos (F := F) c (fun _ => 0) ∗ payToks (F := F) c)) (Ψ := G' m ρ) fun c _ => by
      unfold G'
      iintro ⟨HR, HP⟩
      isplitl [HR]; · iexists K; iexact HR
      iexact HP
  rw [bigSep_sep', bigSep_sep', bigSep_sep', hI, hR]
  iintro ⟨HI, ⟨Hat, HR⟩, Htok⟩
  ihave HK := hE $$ HI
  icases HK with ⟨%K, HI⟩
  ihave Htk := (toks_around (F := F)) $$ Htok
  iapply (hG K)
  isplitl [HI HR]
  · isplitl [HI]; · unfold records; iexact HI
    iexact HR
  iapply (Entails.of_eq (bigSep_sep' Finset.univ (fun c : Dev nD => pos (F := F) c (fun _ => 0)) (payToks (F := F))).symm)
  isplitl [Hat]; · iexact Hat
  iexact Htk

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

theorem credR_intro (c : Dev nD) (d : Bool) : (Pipeline.launchCred (fun e => owedR e d 0) c : sProp 𝕄) ⊢ credR (F := F) c d := by
  unfold owedR credR
  rw [Pipeline.launchCred_sum, Finset.range_eq_Ico]
  exact bigSep_mono fun n _ => Pipeline.launchCred_tallyAt (csem (rK d n)) (dst d) (src d) (dst_src d) (src_dst d) _ _ c
theorem credC_intro (c : Dev nD) (d : Bool) : (Pipeline.launchCred (fun e => owedC e d 0) c : sProp 𝕄) ⊢ credC (F := F) c d := by
  unfold owedC credC
  rw [Pipeline.launchCred_sum, Finset.range_eq_Ico]
  exact bigSep_mono fun n _ => Pipeline.launchCred_tallyAt (csem (cK d n)) (src d) (dst d) (src_dst d) (dst_src d) _ _ c
theorem credM_intro (c : Dev nD) : (Pipeline.launchCred (fun e => owedM e 0) c : sProp 𝕄) ⊢ credM (F := F) c := by
  unfold owedM credM
  rw [Pipeline.launchCred_sum, Finset.range_eq_Ico]
  exact bigSep_mono fun i _ => Pipeline.launchCred_tallyAt (csem (mrK (f31 i))) (fwd (f31 i)) (bwd (f31 i)) (fwd_bwd _) (bwd_fwd _) _ _ c

theorem creds_intro (c : Dev nD) : (Pipeline.launchCred owed0 c : sProp 𝕄) ⊢ creds (F := F) c := by
  have e : (Pipeline.launchCred owed0 c : sProp 𝕄) = iprop(((((Pipeline.launchCred (fun e => owedR e false 0) c ∗ Pipeline.launchCred (fun e => owedC e false 0) c)
      ∗ (Pipeline.launchCred (fun e => owedR e true 0) c ∗ Pipeline.launchCred (fun e => owedC e true 0) c)) ∗ Pipeline.launchCred (fun e => owedM e 0) c)
      ∗ Pipeline.launchCred (fun e => tallyAt (cell (nxt e) barK) 1 1) c) ∗ Pipeline.launchCred (fun e => tallyAt (cell (prv e) barK) 1 1) c) := by
    show (Pipeline.launchCred (fun e => owedR e false 0 + owedC e false 0 + (owedR e true 0 + owedC e true 0) + owedM e 0
      + tallyAt (cell (nxt e) barK) 1 1 + tallyAt (cell (prv e) barK) 1 1) c : sProp 𝕄) = _
    rw [Pipeline.launchCred_add, Pipeline.launchCred_add, Pipeline.launchCred_add, Pipeline.launchCred_add, Pipeline.launchCred_add, Pipeline.launchCred_add]
  have hn := Pipeline.launchCred_tallyAt (nD := nD) (τ := τ) (sig := sig) (Val := Elt F) (Name := ℕ) (U := UU) (Lvl := ℕ) (csem barK) nxt prv nxt_prv prv_nxt (1 : ℕ) 1 c
  have hp := Pipeline.launchCred_tallyAt (nD := nD) (τ := τ) (sig := sig) (Val := Elt F) (Name := ℕ) (U := UU) (Lvl := ℕ) (csem barK) prv nxt prv_nxt nxt_prv (1 : ℕ) 1 c
  have h2 : iprop(cred (tallyAt (cell c barK) 1 1) ∗ cred (tallyAt (cell c barK) 1 1)) ⊢ (cred (tallyAt (cell c barK) 1 2) : sProp 𝕄) := by
    exact (cred_add _ _).2.trans (Entails.of_eq (congrArg cred (tallyAt_add _ _ _ _)))
  rw [e]
  unfold creds
  iintro ⟨⟨⟨⟨⟨R0, C0⟩, R1, C1⟩, M⟩, N⟩, P⟩
  isplitl [N P]
  · iapply h2
    isplitl [N]; · iapply hn; iexact N
    iapply hp; iexact P
  isplitl [R0 C0]
  · isplitl [R0]; · iapply (credR_intro (F := F) c false); iexact R0
    iapply (credC_intro (F := F) c false); iexact C0
  isplitl [R1 C1]
  · isplitl [R1]; · iapply (credR_intro (F := F) c true); iexact R1
    iapply (credC_intro (F := F) c true); iexact C1
  iapply (credM_intro (F := F) c); iexact M

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m ρ c)
      ⊢ |={Set.univ}=> iprop(start m ρ c ∗ emp) := by
  have hl : (levAts L lv : sProp 𝕄) ⊢ levs (F := F) := by unfold levs; exact .rfl
  unfold G' start Start ctx
  iintro ⟨-, Hlev, Hcr, -, ⟨%K, HR, HS⟩, Hpos, Htok⟩
  ihave Hc := (creds_intro (F := F) c) $$ Hcr
  imodintro
  isplitl
  · isplitl [HR HS Hlev]
    · iexists K
      isplitl [HR]; · iexact HR
      isplitl [HS]; · iexact HS
      iapply hl; iexact Hlev
    isplitl [Hpos]; · iexact Hpos
    isplitl [Htok]; · iexact Htok
    iexact Hc
  · iempintro

theorem bufs_eq (c : Dev nD) : bufs (F := F) c = (Pipeline.scopedRest cfg0.spec c : sProp 𝕄) := by
  have h := scopedRest0_eq (Ix := ℕ) (Val := Elt F) (Name := ℕ) (U := UU) (Lvl := ℕ) c
  exact (show bufs (F := F) c = _ from by unfold bufs Some' Full; rfl).trans h.symm

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← bufs_eq]
  unfold Φ₀
  iintro ⟨Hs, -, Hb⟩
  isplitl [Hs]; · iexact Hs
  iexact Hb

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ← bufs_eq]
  unfold Φ₁
  rw [zero_eq]
  iintro ⟨⟨Hu, Ho⟩, Hb⟩
  isplitl [Hu]; · iexact Hu
  isplitl [Ho]; · iexact Ho
  iexact Hb

theorem owed0_above (c : Dev nD) : Above (owed0 c) 0 := by
  unfold owed0 owed
  exact (((((owedR_above c _ _ _ (by omega)).add (owedC_above c _ _ _ (by omega))).add
    ((owedR_above c _ _ _ (by omega)).add (owedC_above c _ _ _ (by omega)))).add (owedM_above c _ _ (by omega))).add
    (Above.tally _ _ _ _ _ (by omega) (by omega))).add (Above.tally _ _ _ _ _ (by omega) (by omega))

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    have hl : (levAts L lv : sProp 𝕄) ⊢ levs (F := F) := by unfold levs; exact .rfl
    rcases t with ⟨_ | _, ht⟩
    · exact hl.trans ((owed0_above c).mayWait (by omega) c _)
    · exact hl.trans ((Above.zero 0).mayWait (by omega) c _)

theorem L_of_ne (g : GSem nD τ sig) (h : g.1.2 ≠ .tc) : L g = ∅ := by unfold L; exact if_neg h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with the counters at zero, on the thirty-two devices: the program ends, each window's array at its
    final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The operands after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Ring

end
-- ==== Proof.Ideal.Runs.lean ====
/- The run read at the program's arrays: the arguments unchanged, the result at its value. -/
module

public import proofs.«01_k».proof.Proof.Ideal.Launch
public import Idealize.ShloMosaic.Lib.Pipeline.Value

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg)

variable (m : (ℓ : Loc nD τ sig) → Buf (Elt F) ℓ) (ρ : Dev nD → PrngReg)

/-- The frame: the arguments unchanged and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main m ρ)

/-! ## Each window is its whole array -/

theorem at_zero0 : ∀ t : Fin cfg0.N, win0_0.index t (0 : Fin 2) = 0 ∧ win0_0.index t (1 : Fin 2) = 0 :=
  (by decide +kernel : ∀ t : Fin grid0.N, _)
theorem at_zero1 : ∀ t : Fin cfg0.N, win0_1.index t (0 : Fin 2) = 0 ∧ win0_1.index t (1 : Fin 2) = 0 :=
  (by decide +kernel : ∀ t : Fin grid0.N, _)
theorem at_zero2 : ∀ t : Fin cfg0.N, win0_2.index t (0 : Fin 2) = 0 ∧ win0_2.index t (1 : Fin 2) = 0 :=
  (by decide +kernel : ∀ t : Fin grid0.N, _)

theorem same0 (t : Fin cfg0.N) (j : S4096x128.Idx) : ((cfg0.win 0).blk t).view.emb j = j := by
  obtain ⟨h0, h1⟩ := at_zero0 t
  funext a; apply Fin.ext
  match a with
  | ⟨0, _⟩ => show win0_0.index t (0 : Fin 2) * 4096 + 1 * (j 0).val = (j 0).val; omega
  | ⟨1, _⟩ => show win0_0.index t (1 : Fin 2) * 128 + 1 * (j 1).val = (j 1).val; omega
theorem same1 (t : Fin cfg0.N) (j : S128x8192.Idx) : ((cfg0.win 1).blk t).view.emb j = j := by
  obtain ⟨h0, h1⟩ := at_zero1 t
  funext a; apply Fin.ext
  match a with
  | ⟨0, _⟩ => show win0_1.index t (0 : Fin 2) * 128 + 1 * (j 0).val = (j 0).val; omega
  | ⟨1, _⟩ => show win0_1.index t (1 : Fin 2) * 8192 + 1 * (j 1).val = (j 1).val; omega
theorem same2 (t : Fin cfg0.N) (j : S128x8192.Idx) : ((cfg0.win 2).blk t).view.emb j = j := by
  obtain ⟨h0, h1⟩ := at_zero2 t
  funext a; apply Fin.ext
  match a with
  | ⟨0, _⟩ => show win0_2.index t (0 : Fin 2) * 128 + 1 * (j 0).val = (j 0).val; omega
  | ⟨1, _⟩ => show win0_2.index t (1 : Fin 2) * 8192 + 1 * (j 1).val = (j 1).val; omega

/-- The operands a device starts from are its two argument arrays. -/
theorem V₀_x (c : Dev nD) : (V₀ m ρ).x c = m ((c.tc : Thread nD τ).loc main_arg0) := by
  funext j
  show m ((c.tc : Thread nD τ).loc main_arg0) (((cfg0.win 0).blk t0_0).view.emb j) = _
  rw [same0]
theorem V₀_w (c : Dev nD) : (V₀ m ρ).w c = m ((c.tc : Thread nD τ).loc main_arg1) := by
  funext j
  show m ((c.tc : Thread nD τ).loc main_arg1) (((cfg0.win 1).blk t0_0).view.emb j) = _
  rw [same1]

theorem wroteOut (c : Dev nD) (t : Fin cfg0.N) :
    (dats m ρ 0 c).flushed 2 t = ((cfg0.win 2).blk t).view.read (Elt F) (outVal (V₀ m ρ) c) := by
  funext j
  show outVal (V₀ m ρ) c j = outVal (V₀ m ρ) c (((cfg0.win 2).blk t).view.emb j)
  rw [same2]

theorem covered (i : S128x8192.Idx) :
    ∃ t : Fin cfg0.N, (cfg0.win 2).flush t = true ∧ i ∈ ((cfg0.win 2).blk t).view.set :=
  ⟨t0_0, flush0_2 _, by have h := ((cfg0.win 2).blk t0_0).view.emb_mem_set i; rwa [same2] at h⟩

/-- The result's array after the run. -/
theorem finalA_out (c : Dev nD) : finalA m ρ c (2 : Fin 3) = outVal (V₀ m ρ) c :=
  (dats m ρ 0 c).arrAt_eq_of_cover 2 (outVal (V₀ m ρ) c) (fun t _ => wroteOut m ρ c t) covered

/-- The run with the result named. -/
theorem run_out : θ_run defs (onTc (τ := τ) (main (F := F))) ⟨m, fun _ => 0, ρ⟩ (fun r => ∀ c : Dev nD,
      r.2.mem ((c.tc : Thread nD τ).loc main_v1) = outVal (V₀ m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (finalA_out m ρ c), (h.1 c (0 : Fin 3)).trans (finalA_x m ρ c), (h.1 c (1 : Fin 3)).trans (finalA_w m ρ c)⟩)
    (run_main m ρ)

end Cert.KernelIdeal.Ring

end
-- ==== Proof.Ideal.Product.lean ====
/- The running sums over the extended reals: after a whole round the two directions' sums are the rows of the whole product. -/
module

public import proofs.«01_k».proof.Proof.Ideal.Bufs
public import Idealize.ShloMosaic.Lib.MatmulPlain
public import Idealize.ShloMosaic.Lib.Layout
public import Idealize.ShloMosaic.Lib.Pipeline.Value

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

/-- The whole operands. -/
abbrev WholeX : Type := (⟨2, ![4096, 4096]⟩ : Shape).Idx → EReal
abbrev WholeW : Type := (⟨2, ![4096, 8192]⟩ : Shape).Idx → EReal

/-- Row `r` of the devices' block `a`, among all the rows. -/
abbrev at128 (a : Fin 32) (r : Fin 128) : Fin 4096 := ⟨a.val * 128 + r.val, by have := a.isLt; have := r.isLt; omega⟩

/-- What the block of the contraction that device `b` holds adds to row `r` of row block `a`, at column `q`. -/
def term (X : WholeX) (W : WholeW) (a b : Fin 32) (r : Fin 128) (q : Fin 8192) : EReal :=
  ∑ k : Fin 128, X (ix2 (at128 a r) (at128 b k)) * W (ix2 (at128 b k) q)

/-- The row block that device `c` multiplies at step `s`. -/
def chunk : Bool → Dev nD → ℕ → Fin 32
  | false, c, s => ⟨(c.val + 31 * (s + 1)) % 32, Nat.mod_lt _ (by decide)⟩
  | true, c, s => ⟨(c.val + (s + 1)) % 32, Nat.mod_lt _ (by decide)⟩
/-- The device `s` places back along a direction. -/
def away : Bool → Dev nD → ℕ → Fin 32
  | false, c, s => ⟨(c.val + 31 * s) % 32, Nat.mod_lt _ (by decide)⟩
  | true, c, s => ⟨(c.val + s) % 32, Nat.mod_lt _ (by decide)⟩

theorem offA_val : ∀ (c : Dev nD) (s : Fin 32), k0_off1 c (BitVec.ofNat 32 s.val) 0 = (chunk false c s.val).val * 128 ∧ k0_off1 c (BitVec.ofNat 32 s.val) 1 = 0 := by
  decide +kernel
theorem offB_val : ∀ (c : Dev nD) (s : Fin 32), k0_off2 c (BitVec.ofNat 32 s.val) 0 = (chunk true c s.val).val * 128 ∧ k0_off2 c (BitVec.ofNat 32 s.val) 1 = 0 := by
  decide +kernel

theorem chunk_src (d : Bool) (c : Dev nD) (n : ℕ) : chunk d (src d c) n = chunk d c (n + 1) := by
  cases d with
  | false => apply Fin.ext; show ((prv c).val + 31 * (n + 1)) % 32 = (c.val + 31 * (n + 1 + 1)) % 32; rw [prv_val]; omega
  | true => apply Fin.ext; show ((nxt c).val + (n + 1)) % 32 = (c.val + (n + 1 + 1)) % 32; rw [nxt_val]; omega
theorem away_src (d : Bool) (c : Dev nD) (s : ℕ) : away d (src d c) s = away d c (s + 1) := by
  cases d with
  | false => apply Fin.ext; show ((prv c).val + 31 * s) % 32 = (c.val + 31 * (s + 1)) % 32; rw [prv_val]; omega
  | true => apply Fin.ext; show ((nxt c).val + s) % 32 = (c.val + (s + 1)) % 32; rw [nxt_val]; omega
theorem away_zero (d : Bool) (c : Dev nD) : away d c 0 = c := by
  have hc : c.val < 32 := c.isLt
  cases d with
  | false => apply Fin.ext; show (c.val + 31 * 0) % 32 = c.val; omega
  | true => apply Fin.ext; show (c.val + 0) % 32 = c.val; omega
theorem chunk_last (d : Bool) (c : Dev nD) : chunk d c 31 = c := by
  have hc : c.val < 32 := c.isLt
  cases d with
  | false => apply Fin.ext; show (c.val + 31 * (31 + 1)) % 32 = c.val; omega
  | true => apply Fin.ext; show (c.val + (31 + 1)) % 32 = c.val; omega

/-- The steps of a round visit every device once. -/
theorem away_bij (d : Bool) (c : Dev nD) : Function.Bijective (fun s : Fin 32 => away d c s.val) := by
  refine (Fintype.bijective_iff_injective_and_card _).mpr ⟨fun s t h => ?_, rfl⟩
  have hs := s.isLt; have ht := t.isLt
  have h := congrArg Fin.val h
  apply Fin.ext
  cases d with
  | false => change (c.val + 31 * s.val) % 32 = (c.val + 31 * t.val) % 32 at h; omega
  | true => change (c.val + s.val) % 32 = (c.val + t.val) % 32 at h; omega

/-- A column of a direction's half, among all the columns. -/
abbrev colAt (d : Bool) (q : Fin 4096) : Fin 8192 := ⟨(bif d then 4096 else 0) + q.val, by have := q.isLt; cases d <;> simp <;> omega⟩

variable (V : Ops Ideal) (X : WholeX) (W : WholeW)

/-- Each device holds its columns of one operand and its rows of the other. -/
structure Cut : Prop where
  x : ∀ c : Dev nD, V.x c = Layout.block ⟨2, ![4096, 128]⟩ ⟨2, ![4096, 4096]⟩ 1 32 c X
  w : ∀ c : Dev nD, V.w c = Layout.block ⟨2, ![128, 8192]⟩ ⟨2, ![4096, 8192]⟩ 0 32 c W

theorem part_apply (x : Vec Ideal S128x128 .f32) (w : Vec Ideal S128x4096 .f32) (r : Fin 128) (q : Fin 4096) :
    part x w (ix2 r q) = ∑ k : Fin 128, x (ix2 r k) * w (ix2 k q) := by
  unfold part matmul
  rw [shapeCast_self, shapeCast_self]
  have hd : dot_S128x128_S128x4096_S128x4096_1_0_0_1_n_n = DotDims.plain 128 128 4096 := rfl
  rw [hd]
  refine (Ideal.matmul_plain_apply _ _ _ _ r q).trans ?_
  rw [show constant (F := Ideal) S128x4096 .f32 0x00000000#32 (ix2 r q) = (0 : EReal) from Ideal.ofBits_zero_f32, zero_add]

variable {V X W}

theorem read_w (h : Cut V X W) (d : Bool) (c : Dev nD) (k : Fin 128) (q : Fin 4096) :
    (wM.access (colR d)).read (Elt Ideal) (V.w c) (ix2 k q) = W (ix2 (at128 c k) (colAt d q)) := by
  show V.w c ((colR d).emb (ix2 k q)) = _
  rw [h.w c, Layout.block_apply]
  refine congrArg W (funext fun a => Fin.ext ?_)
  match a with
  | ⟨0, _⟩ => show c.val * 128 + (0 + 1 * k.val) = c.val * 128 + k.val; omega
  | ⟨1, _⟩ => show (bif d then 4096 else 0) + 1 * q.val = (bif d then 4096 else 0) + q.val; omega

theorem read_x (h : Cut V X W) (c : Dev nD) (off : Fin 2 → ℕ) (hb : ∀ a, off a + S128x128.size a ≤ S4096x128.size a) (a : Fin 32)
    (ho : off 0 = a.val * 128 ∧ off 1 = 0) (r k : Fin 128) :
    (xM.access (Rect.unit (s := S4096x128) off S128x128.size hb)).read (Elt Ideal) (V.x c) (ix2 r k) = X (ix2 (at128 a r) (at128 c k)) := by
  show V.x c ((Rect.unit (s := S4096x128) off S128x128.size hb).emb (ix2 r k)) = _
  rw [h.x c, Layout.block_apply]
  obtain ⟨h0, h1⟩ := ho
  refine congrArg X (funext fun b => Fin.ext ?_)
  match b with
  | ⟨0, _⟩ => show off 0 + 1 * r.val = a.val * 128 + r.val; omega
  | ⟨1, _⟩ => show c.val * 128 + (off 1 + 1 * k.val) = c.val * 128 + k.val; omega

theorem pd_apply (h : Cut V X W) (d : Bool) (c : Dev nD) (s : ℕ) (hs : s < 32) (r : Fin 128) (q : Fin 4096) :
    pd V d c s (ix2 r q) = term X W (chunk d c s) c r (colAt d q) := by
  cases d with
  | false =>
    unfold pd; dsimp only; rw [dif_pos hs, part_apply]
    exact Finset.sum_congr rfl fun k _ => by rw [read_x h c _ _ (chunk false c s) (offA_val c ⟨s, hs⟩), read_w h]
  | true =>
    unfold pd; dsimp only; rw [dif_pos hs, part_apply]
    exact Finset.sum_congr rfl fun k _ => by rw [read_x h c _ _ (chunk true c s) (offB_val c ⟨s, hs⟩), read_w h]

/-- The running sum after step `n`: the blocks of the devices it came through. -/
theorem val_apply (h : Cut V X W) (d : Bool) (n : ℕ) (hn : n < 32) (c : Dev nD) (r : Fin 128) (q : Fin 4096) :
    val V d n c (ix2 r q) = ∑ s ∈ Finset.range (n + 1), term X W (chunk d c n) (away d c s) r (colAt d q) := by
  induction n generalizing c with
  | zero =>
    rw [Finset.sum_range_one, away_zero]
    exact pd_apply h d c 0 hn r q
  | succ n ih =>
    rw [Finset.sum_range_succ']
    show (pd V d c (n + 1) (ix2 r q) + val V d n (src d c) (ix2 r q) : EReal) = _
    rw [ih (by omega) (src d c), pd_apply h d c (n + 1) hn, away_zero, add_comm]
    refine congrArg (· + _) (Finset.sum_congr rfl fun s _ => ?_)
    rw [chunk_src, away_src]

/-- Row `r`, column `q` of the whole product. -/
def prod (X : WholeX) (W : WholeW) (r : Fin 4096) (q : Fin 8192) : EReal := ∑ k : Fin 4096, X (ix2 r k) * W (ix2 k q)

/-- The contraction block by block. -/
theorem sum_blocks (f : Fin 4096 → EReal) : ∑ b : Fin 32, ∑ k : Fin 128, f (at128 b k) = ∑ k, f k := by
  rw [← Fintype.sum_prod_type' (f := fun (b : Fin 32) (k : Fin 128) => f (at128 b k))]
  refine Fintype.sum_equiv (finProdFinEquiv (m := 32) (n := 128)) _ _ fun p => congrArg f (Fin.ext ?_)
  show p.1.val * 128 + p.2.val = p.2.val + 128 * p.1.val
  omega

theorem val_last (h : Cut V X W) (d : Bool) (c : Dev nD) (r : Fin 128) (q : Fin 4096) :
    val V d 31 c (ix2 r q) = prod X W (at128 c r) (colAt d q) := by
  rw [val_apply h d 31 (by omega), chunk_last, Finset.sum_range (fun s => term X W c (away d c s) r (colAt d q)),
    (away_bij d c).sum_comp (fun b => term X W c b r (colAt d q))]
  exact sum_blocks fun k => X (ix2 (at128 c r) k) * W (ix2 k (colAt d q))

/-- A device's rows of the product. -/
theorem oVal_apply (h : Cut V X W) (c : Dev nD) (r : Fin 128) (q : Fin 8192) : oVal V c (ix2 r q) = prod X W (at128 c r) q := by
  have hcase : ∀ (d : Bool) (y : S128x4096.Idx), (colR d).emb y = ix2 r q → oVal V c (ix2 r q) = prod X W (at128 c r) q := by
    intro d y hy
    have e0 : (y 0).val = r.val := by
      have := congrArg (fun x : S128x8192.Idx => (x 0).val) hy
      change 0 + 1 * (y 0).val = r.val at this; omega
    have e1 : (bif d then 4096 else 0) + (y 1).val = q.val := by
      have := congrArg (fun x : S128x8192.Idx => (x 1).val) hy
      change (bif d then 4096 else 0) + 1 * (y 1).val = q.val at this; omega
    have hyy : y = ix2 (y 0) (y 1) := eq_ix2 y
    have hv : oVal V c ((colR d).emb y) = val V d 31 c y := by
      unfold oVal
      cases d with
      | false => exact both_false _ _ _ y
      | true => exact both_true _ _ _ y
    rw [← hy, hv, hyy]
    refine (val_last h d c (y 0) (y 1)).trans ?_
    rw [show (y 0 : Fin 128) = r from Fin.ext e0, show colAt d (y 1) = q from Fin.ext e1]
  rcases col_cases (ix2 r q) with ⟨y, hy⟩ | ⟨y, hy⟩
  · exact hcase false y hy
  · exact hcase true y hy

end Cert.KernelIdeal.Ring

end
-- ==== Proof.Ideal.Result.lean ====
/- The result over the extended reals: the maximum of all the devices' maxima is the whole product's, and each device's result is its rows of the reference's. -/
module

public import proofs.«01_k».proof.Proof.Ideal.Product
public import proofs.«01_k».proof.Proof.Ideal.Maxes
public import proofs.«01_k».proof.Proof.Gen.ReferenceIdeal.Skeleton
public import Idealize.ShloMosaic.PureOps.Ideal.Laws

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

/-! ## Maxima -/

/-- A maximum over every axis is the least upper bound of all the entries. -/
theorem max_all {s t : Shape} {axes : List (Fin s.rank)} (src : FVec Ideal s .f32) (h : s.Reduces axes t) (hφ : FKind.Formats .f32)
    (hacc : (0xFF800000#32 : BitVec (FTy.bits .f32)) = FKind.maximumf.neutral .f32 hφ) (ht : ∀ b, t.size b = 1) (j : t.Idx) :
    multiReduction .maximumf axes t src 0xFF800000#32 h hφ hacc j = iSup (α := EReal) fun i => src i := by
  rw [multiReduction_maximumf_eq_fold]
  have hj : ∀ i : s.Idx, h.drop i = j := fun i => funext fun b => by
    have h1 := (h.drop i b).isLt; have h2 := (j b).isLt; have h3 := ht b
    exact Fin.ext (by omega)
  rw [Finset.filter_true_of_mem fun i _ => hj i]
  have hb : (FloatOps.ofBits (F := Ideal) .f32 0xFF800000#32 : EReal) = ⊥ := by
    show Ideal.ofBits .f32 0xFF800000#32 = ⊥
    simp [Ideal.ofBits, Ideal.ieee]
  rw [← Finset.sup_univ_eq_iSup]
  show Finset.fold FloatOps.maximumf (FloatOps.ofBits (F := Ideal) .f32 0xFF800000#32) src Finset.univ = Finset.fold (fun a b : EReal => a ⊔ b) ⊥ _ Finset.univ
  rw [hb]; rfl

/-- The absolute value. -/
abbrev mag (v : EReal) : EReal := max v (-v)

theorem amaxS_eq (o : Vec Ideal S128x8192 .f32) : amaxS o = iSup fun i : S128x8192.Idx => mag (o i) := by
  unfold amaxS extractAt
  rw [shapeCast_self]
  refine (max_all _ _ _ _ (by decide) _).trans ?_
  exact (Shape.reshapeEquiv shapeCasts_S128x8192_S1x128x8192).iSup_comp (g := fun i => mag (o i))

variable {V : Ops Ideal} {X : WholeX} {W : WholeW}

/-- The greatest absolute value of the whole product. -/
def peak (X : WholeX) (W : WholeW) : EReal := ⨆ r, ⨆ q, mag (prod X W r q)

theorem who_surj : ∀ c t : Dev nD, ∃ i : Fin 32, who c i.val = t := by decide +kernel

theorem row_split (r : Fin 4096) : ∃ (a : Fin 32) (b : Fin 128), at128 a b = r :=
  ⟨⟨r.val / 128, by have := r.isLt; omega⟩, ⟨r.val % 128, Nat.mod_lt _ (by decide)⟩, Fin.ext (by show r.val / 128 * 128 + r.val % 128 = r.val; omega)⟩

theorem maxima_eq (h : Cut V X W) (c : Dev nD) : (iSup (α := EReal) fun x : S32x8x128.Idx => mVal V c x) = peak X W := by
  apply le_antisymm
  · refine iSup_le fun x => ?_
    show (amaxS (oVal V (who c (x 0).val)) : EReal) ≤ _
    rw [amaxS_eq]
    refine iSup_le fun i => ?_
    obtain ⟨r, q, rfl⟩ : ∃ (r : Fin 128) (q : Fin 8192), i = ix2 r q := ⟨i 0, i 1, eq_ix2 i⟩
    rw [oVal_apply h]
    exact le_iSup₂ (f := fun r q => mag (prod X W r q)) _ _
  · refine iSup₂_le fun r q => ?_
    obtain ⟨a, b, rfl⟩ := row_split r
    obtain ⟨i, hi⟩ := who_surj c a
    refine le_iSup_of_le (ix3 i 0 0 : S32x8x128.Idx) ?_
    show _ ≤ (amaxS (oVal V (who c i.val)) : EReal)
    rw [hi, amaxS_eq]
    refine le_iSup_of_le (ix2 b q : S128x8192.Idx) ?_
    rw [oVal_apply h]

/-- The scale of the whole product. -/
def scale (X : WholeX) (W : WholeW) : Ideal .f32 := Scalar.divf (peak X W : Ideal .f32) (Scalar.ofBits .f32 0x43E00000#32)

theorem scaleOf_eq (h : Cut V X W) (c : Dev nD) : scaleOf (mVal V c) = scale X W := by
  unfold scaleOf scale extractAt
  refine congrArg (fun p : Ideal .f32 => Scalar.divf p (Scalar.ofBits .f32 0x43E00000#32)) ?_
  refine (max_all _ _ _ _ (by decide) _).trans ?_
  refine Eq.trans ?_ (maxima_eq h c)
  exact (Shape.reshapeEquiv shapeCasts_S32x8x128_S1x32x8x128).iSup_comp (g := fun i : S32x8x128.Idx => (show EReal from mVal V c i))

/-! ## The quantiser -/

/-- An entry divided by the scale, rounded to eight bits and multiplied back (over the extended reals the rounding is the identity). -/
def snap (p s : Ideal .f32) : Ideal .f32 := FloatOps.mulf (FloatOps.divf p s) s

/-- The greatest eight-bit value, as the word of its constant and of its negative read. -/
theorem top_val : (Ideal.ofBits .f32 0x43E00000#32 : EReal) = ((448 : ℝ) : EReal) := by
  simp [Ideal.ofBits, Ideal.ieee, -EReal.coe_mul]; norm_num
theorem bot_val : (Ideal.ofBits .f32 0xC3E00000#32 : EReal) = ((-448 : ℝ) : EReal) := by
  simp [Ideal.ofBits, Ideal.ieee, -EReal.coe_mul]; norm_num

theorem mag_nonneg (p : EReal) : 0 ≤ mag p := by
  rcases le_total 0 p with h | h
  · exact h.trans (le_max_left _ _)
  · exact (EReal.neg_nonneg.mpr h).trans (le_max_right _ _)

/-- A quotient by the scale of a greatest magnitude lies in the eight-bit range, or is multiplied by zero: clipping it changes nothing. -/
theorem clip_free (p A : EReal) (h : mag p ≤ A) :
    min ((448 : ℝ) : EReal) (max ((-448 : ℝ) : EReal) (Ideal.div p (Ideal.div A ((448 : ℝ) : EReal)))) * Ideal.div A ((448 : ℝ) : EReal)
      = Ideal.div p (Ideal.div A ((448 : ℝ) : EReal)) * Ideal.div A ((448 : ℝ) : EReal) := by
  have hc : ((448 : ℝ) : EReal) ≠ 0 := by exact_mod_cast (by norm_num : (448 : ℝ) ≠ 0)
  have hs : Ideal.div A ((448 : ℝ) : EReal) = A * ((448⁻¹ : ℝ) : EReal) := by
    unfold Ideal.div; rw [if_neg hc, EReal.coe_inv]
  have hlo : ((-448 : ℝ) : EReal) ≤ 0 := by exact_mod_cast (by norm_num : (-448 : ℝ) ≤ 0)
  have hhi : (0 : EReal) ≤ ((448 : ℝ) : EReal) := by exact_mod_cast (by norm_num : (0 : ℝ) ≤ 448)
  have hA := (mag_nonneg p).trans h
  rw [hs]
  induction A with
  | bot => exact absurd hA (by simp)
  | top =>
    rw [EReal.top_mul_coe_of_pos (by norm_num)]
    have hd : Ideal.div p ⊤ = 0 := by unfold Ideal.div; rw [if_neg (by simp), EReal.inv_top, mul_zero]
    rw [hd, max_eq_right hlo, min_eq_right hhi]
  | coe a =>
    have ha : 0 ≤ a := by exact_mod_cast hA
    rcases ha.eq_or_lt with rfl | ha
    · simp
    have hp1 := (le_max_left p (-p)).trans h
    have hp2 := (le_max_right p (-p)).trans h
    induction p with
    | bot => exact absurd hp2 (by simp)
    | top => exact absurd hp1 (by simp)
    | coe r =>
      have h1 : r ≤ a := by exact_mod_cast hp1
      have h2 : -r ≤ a := by exact_mod_cast hp2
      have hm : ((a : EReal) * ((448⁻¹ : ℝ) : EReal)) = ((a * 448⁻¹ : ℝ) : EReal) := (EReal.coe_mul _ _).symm
      have hpos : 0 < a * 448⁻¹ := by positivity
      have hd : Ideal.div (r : EReal) ((a * 448⁻¹ : ℝ) : EReal) = ((r / (a * 448⁻¹) : ℝ) : EReal) := by
        unfold Ideal.div
        rw [if_neg (by exact_mod_cast hpos.ne'), ← EReal.coe_inv, ← EReal.coe_mul, div_eq_mul_inv]
      have hu : r / (a * 448⁻¹) ≤ 448 := by
        rw [div_le_iff₀ hpos]; linarith
      have hl : -448 ≤ r / (a * 448⁻¹) := by
        rw [le_div_iff₀ hpos]; linarith
      rw [hm, hd, max_eq_right (by exact_mod_cast hl), min_eq_right (by exact_mod_cast hu)]

theorem snap_clip (X : WholeX) (W : WholeW) (r : Fin 4096) (q : Fin 8192) :
    FloatOps.mulf (FloatOps.minimumf (Scalar.ofBits (F := Ideal) .f32 0x43E00000#32) (FloatOps.maximumf (Scalar.ofBits (F := Ideal) .f32 0xC3E00000#32)
      (FloatOps.divf (prod X W r q : Ideal .f32) (scale X W)))) (scale X W) = snap (prod X W r q) (scale X W) := by
  have h := clip_free (prod X W r q) (peak X W) (le_iSup₂ (f := fun r q => mag (prod X W r q)) r q)
  rw [← top_val, ← bot_val] at h
  exact h

theorem outVal_apply (h : Cut V X W) (c : Dev nD) (r : Fin 128) (q : Fin 8192) :
    outVal V c (ix2 r q) = snap (prod X W (at128 c r) q) (scale X W) := by
  unfold outVal quant
  rw [shapeCast_self, scaleOf_eq h c, ← oVal_apply h]
  rfl

/-! ## The reference -/

theorem product_apply (X : WholeX) (W : WholeW) (r : Fin 4096) (q : Fin 8192) :
    matmul (F := Ideal) (φ₁ := .f32) (φ₂ := .f32) Cert.ReferenceIdeal.dot_S4096x4096_S4096x8192_S4096x8192_1_0_0_1_n_n (some .fp32) X W
      (constant Cert.ReferenceIdeal.S4096x8192 .f32 0x00000000#32) (ix2 r q) = prod X W r q := by
  unfold matmul
  have hd : Cert.ReferenceIdeal.dot_S4096x4096_S4096x8192_S4096x8192_1_0_0_1_n_n = DotDims.plain 4096 4096 8192 := rfl
  rw [hd]
  refine (Ideal.matmul_plain_apply _ _ _ _ r q).trans ?_
  rw [show constant (F := Ideal) Cert.ReferenceIdeal.S4096x8192 .f32 0x00000000#32 (ix2 r q) = (0 : EReal) from Ideal.ofBits_zero_f32, zero_add]
  rfl

theorem whole_peak (Y : FVec Ideal Cert.ReferenceIdeal.S4096x8192 .f32) (hY : ∀ r q, Y (ix2 r q) = prod X W r q) :
    (iSup fun i : Cert.ReferenceIdeal.S4096x8192.Idx => mag (Y i)) = peak X W := by
  apply le_antisymm
  · refine iSup_le fun i => ?_
    obtain ⟨r, q, rfl⟩ : ∃ (r : Fin 4096) (q : Fin 8192), i = ix2 r q := ⟨i 0, i 1, eq_ix2 i⟩
    rw [hY]
    exact le_iSup₂ (f := fun r q => mag (prod X W r q)) _ _
  · refine iSup₂_le fun r q => ?_
    refine le_iSup_of_le (ix2 r q : Cert.ReferenceIdeal.S4096x8192.Idx) ?_
    rw [hY]

theorem reference_apply (X : WholeX) (W : WholeW) (r : Fin 4096) (q : Fin 8192) :
    Cert.ReferenceIdeal.Gen.k0_pay1 (F := Ideal) X W (ix2 r q) = snap (prod X W r q) (scale X W) := by
  unfold Cert.ReferenceIdeal.Gen.k0_pay1
  dsimp only
  have hY := product_apply X W
  generalize matmul (F := Ideal) (φ₁ := .f32) (φ₂ := .f32) Cert.ReferenceIdeal.dot_S4096x4096_S4096x8192_S4096x8192_1_0_0_1_n_n (some .fp32) X W
      (constant Cert.ReferenceIdeal.S4096x8192 .f32 0x00000000#32) = Y at hY ⊢
  have hs := (max_all (shapeCast Cert.ReferenceIdeal.S1x4096x8192 (absf Y) Cert.ReferenceIdeal.Gen.shapeCasts_S4096x8192_S1x4096x8192)
    Cert.ReferenceIdeal.Gen.reduces_S1x4096x8192_S1 (.inl rfl) rfl (by decide)
    (Shape.reshapeEquiv Cert.ReferenceIdeal.Gen.shapeCasts_S1_S1x1x1 (fun a => ⟨(![0, 0, 0] : Fin 3 → ℕ) a, Cert.ReferenceIdeal.Gen.inpos_S1x1x1_p0_0_0 a⟩))).trans
    (((Shape.reshapeEquiv Cert.ReferenceIdeal.Gen.shapeCasts_S4096x8192_S1x4096x8192).iSup_comp (g := fun i => mag (Y i))).trans (whole_peak Y hY))
  rw [← snap_clip]
  unfold scale
  rw [← hs, ← hY]
  rfl

/-- Each device's result is its rows of the reference's. -/
theorem outVal_block (h : Cut V X W) (c : Dev nD) :
    outVal V c = Layout.block ⟨2, ![128, 8192]⟩ ⟨2, ![4096, 8192]⟩ 0 32 c (Cert.ReferenceIdeal.Gen.k0_pay1 (F := Ideal) X W) := by
  funext i
  obtain ⟨r, q, rfl⟩ : ∃ (r : Fin 128) (q : Fin 8192), i = ix2 r q := ⟨i 0, i 1, eq_ix2 i⟩
  rw [Layout.block_apply]
  refine (outVal_apply h c r q).trans ((reference_apply X W _ _).symm.trans ?_)
  refine congrArg _ (funext fun b => Fin.ext ?_)
  match b with
  | ⟨0, _⟩ => rfl
  | ⟨1, _⟩ => rfl

end Cert.KernelIdeal.Ring

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ideal.Runs
public import proofs.«01_k».proof.Proof.Ideal.Result
public import proofs.«01_k».proof.Proof.Real.Runs
public import Idealize.ShloMosaic.Adequacy
public import Idealize.ShloMosaic.Init

@[expose] public section

noncomputable section

namespace Cert.Proof

open Idealize.ShloMosaic Idealize.SL.Sem Cert.Kernel

/-- The kernel on the thirty-two devices ends, its arguments unchanged and its counters at zero, for bit-exact floats; -/
theorem frameKernel : Cert.quiescent_Kernel := fun m ρ _ => Cert.Kernel.Ring.kept (F := Bits) m ρ

/-- over the extended reals; -/
theorem frameIdeal : Cert.quiescent_KernelIdeal := fun m ρ _ => Cert.KernelIdeal.Ring.kept (F := Ideal) m ρ

/-- and the reference on its one device. -/
theorem frameReference : Cert.quiescent_ReferenceIdeal := fun m ρ _ => Cert.ReferenceIdeal.Gen.frame (F := Ideal) m ρ

/-- Over the extended reals each device's result is its rows of the reference's result. -/
theorem value : Cert.algebraic_KernelIdeal_ReferenceIdeal := by
  intro m g m' g' _ hin
  have hcut : Cert.KernelIdeal.Ring.Cut (Cert.KernelIdeal.Ring.V₀ m g)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (Cert.KernelIdeal.Ring.V₀_x m g c).trans (hin c).1, fun c => (Cert.KernelIdeal.Ring.V₀_w m g c).trans (hin c).2⟩
  refine ⟨Cert.ReferenceIdeal.Value.G2 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h c).1.trans (Cert.KernelIdeal.Ring.outVal_block hcut c), (h c).2⟩) (Cert.KernelIdeal.Ring.run_out (F := Ideal) m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frameKernel, frameIdeal, frameReference, trivial, value⟩

end Cert.Proof

end
